-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_nodes" .f32 0x3B83126F#32 ((250⁻¹ : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S2x500 : Shape := ⟨2, ![2, 500]⟩
abbrev S2x16000 : Shape := ⟨2, ![2, 16000]⟩
abbrev S512x256 : Shape := ⟨2, ![512, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S2x500 : S_.BroadcastsInDim S2x500 (![] : Fin 0 → Fin S2x500.rank)
  reducesTo_S2x500_S_d0_1 : S2x500.ReducesTo [0, 1] S_
  h_S_ : 0 < S_.numel
  bcast_S_S2x16000 : S_.BroadcastsInDim S2x16000 (![] : Fin 0 → Fin S2x16000.rank)
  reducesTo_S2x16000_S_d0_1 : S2x16000.ReducesTo [0, 1] S_

variable [Facts]

def fn {F : FTy → Type} [FloatOps F] (main_arg0 : IVec S2x500 32) (main_arg1 : IVec S2x16000 32) (main_arg2 : FVec F S512x256 .f32) (main_arg3 : FVec F S256 .f32) (main_arg4 : FVec F S256x256 .f32) (main_arg5 : FVec F S256 .f32) (main_arg6 : FVec F S256x1 .f32) (main_arg7 : FVec F S1 .f32) : IVec S_ 1 :=
  let main_c : IVec S_ 32 := constantI S_ 32 0#32
  let main_v0 : IVec S2x500 32 := broadcastInDim S2x500 ![] bcast_S_S2x500 main_c
  let main_v1 : IVec S2x500 1 := cmpi .sge main_arg0 main_v0
  let main_c_0 : IVec S_ 32 := constantI S_ 32 2#32
  let main_v2 : IVec S2x500 32 := broadcastInDim S2x500 ![] bcast_S_S2x500 main_c_0
  let main_v3 : IVec S2x500 1 := cmpi .slt main_arg0 main_v2
  let main_v4 : IVec S2x500 1 := andi main_v1 main_v3
  let main_c_1 : IVec S_ 1 := constantI S_ 1 1#1
  let main_v5 : IVec S_ 1 := (fun x v => Host.reduce IntOp.andi x v reducesTo_S2x500_S_d0_1 h_S_) main_v4 main_c_1
  let main_c_2 : IVec S_ 32 := constantI S_ 32 0#32
  let main_v6 : IVec S2x16000 32 := broadcastInDim S2x16000 ![] bcast_S_S2x16000 main_c_2
  let main_v7 : IVec S2x16000 1 := cmpi .sge main_arg1 main_v6
  let main_c_3 : IVec S_ 32 := constantI S_ 32 250#32
  let main_v8 : IVec S2x16000 32 := broadcastInDim S2x16000 ![] bcast_S_S2x16000 main_c_3
  let main_v9 : IVec S2x16000 1 := cmpi .slt main_arg1 main_v8
  let main_v10 : IVec S2x16000 1 := andi main_v7 main_v9
  let main_c_4 : IVec S_ 1 := constantI S_ 1 1#1
  let main_v11 : IVec S_ 1 := (fun x v => Host.reduce IntOp.andi x v reducesTo_S2x16000_S_d0_1 h_S_) main_v10 main_c_4
  let main_v12 : IVec S_ 1 := andi main_v5 main_v11
  main_v12
-- ==== Kernel.lean ====
abbrev S2x500 : Shape := ⟨2, ![2, 500]⟩
abbrev S2x16000 : Shape := ⟨2, ![2, 16000]⟩
abbrev S512x256 : Shape := ⟨2, ![512, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S500 : Shape := ⟨1, ![500]⟩
abbrev S500x1 : Shape := ⟨2, ![500, 1]⟩
abbrev S128 : Shape := ⟨1, ![128]⟩
abbrev S_ : Shape := ⟨0, ![]⟩
abbrev S1x128 : Shape := ⟨2, ![1, 128]⟩
abbrev S500x128 : Shape := ⟨2, ![500, 128]⟩
abbrev S500x128x1 : Shape := ⟨3, ![500, 128, 1]⟩
abbrev S500x128x2 : Shape := ⟨3, ![500, 128, 2]⟩
abbrev S500x256 : Shape := ⟨2, ![500, 256]⟩
abbrev S12x256 : Shape := ⟨2, ![12, 256]⟩
abbrev S1x500 : Shape := ⟨2, ![1, 500]⟩
abbrev S1x12 : Shape := ⟨2, ![1, 12]⟩
abbrev S1x512 : Shape := ⟨2, ![1, 512]⟩
abbrev S256x512 : Shape := ⟨2, ![256, 512]⟩
abbrev S1024x256 : Shape := ⟨2, ![1024, 256]⟩
abbrev S4096 : Shape := ⟨1, ![4096]⟩
abbrev S32x256 : Shape := ⟨2, ![32, 256]⟩
abbrev S1x4096 : Shape := ⟨2, ![1, 4096]⟩
abbrev S16 : Shape := ⟨1, ![16]⟩
abbrev S1x16 : Shape := ⟨2, ![1, 16]⟩
abbrev S1x256 : Shape := ⟨2, ![1, 256]⟩
abbrev S1x1 : Shape := ⟨2, ![1, 1]⟩

abbrev nBuf : Table → Nat
  | .hbm => 40
  | .local .tc .vmem => 12
  | .local .scVector .vmem => 3
  | _ => 0

abbrev bufTy : (tb : Table) → Fin (nBuf tb) → BufTy
  | .hbm, ⟨0, _⟩ => ⟨S2x500, .i32⟩
  | .hbm, ⟨1, _⟩ => ⟨S2x16000, .i32⟩
  | .hbm, ⟨2, _⟩ => ⟨S512x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S500, .f32⟩
  | .hbm, ⟨9, _⟩ => ⟨S500x1, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S1x128, .f32⟩
  | .hbm, ⟨22, _⟩ => ⟨S500x128, .f32⟩
  | .hbm, ⟨23, _⟩ => ⟨S500x128, .f32⟩
  | .hbm, ⟨24, _⟩ => ⟨S500x128, .f32⟩
  | .hbm, ⟨25, _⟩ => ⟨S500x128, .f32⟩
  | .hbm, ⟨26, _⟩ => ⟨S500x128, .f32⟩
  | .hbm, ⟨27, _⟩ => ⟨S500x128x1, .f32⟩
  | .hbm, ⟨28, _⟩ => ⟨S500x128x1, .f32⟩
  | .hbm, ⟨29, _⟩ => ⟨S500x128x2, .f32⟩
  | .hbm, ⟨30, _⟩ => ⟨S500x256, .f32⟩
  | .hbm, ⟨31, _⟩ => ⟨S_, .f32⟩
  | .hbm, ⟨32, _⟩ => ⟨S12x256, .f32⟩
  | .hbm, ⟨33, _⟩ => ⟨S512x256, .f32⟩
  | .hbm, ⟨34, _⟩ => ⟨S256x256, .f32⟩
  | .hbm, ⟨35, _⟩ => ⟨S1024x256, .f32⟩
  | .hbm, ⟨36, _⟩ => ⟨S1x256, .f32⟩
  | .hbm, ⟨37, _⟩ => ⟨S1x256, .f32⟩
  | .hbm, ⟨38, _⟩ => ⟨S1x1, .f32⟩
  | .hbm, ⟨39, _⟩ => ⟨S1x1, .f32⟩
  | .local .tc .vmem, ⟨0, _⟩ => ⟨S2x500, .i32⟩
  | .local .tc .vmem, ⟨1, _⟩ => ⟨S512x256, .f32⟩
  | .local .tc .vmem, ⟨2, _⟩ => ⟨S512x256, .f32⟩
  | .local .tc .vmem, ⟨3, _⟩ => ⟨S256x256, .f32⟩
  | .local .tc .vmem, ⟨4, _⟩ => ⟨S1024x256, .f32⟩
  | .local .tc .vmem, ⟨5, _⟩ => ⟨S256x256, .f32⟩
  | .local .tc .vmem, ⟨6, _⟩ => ⟨S1x256, .f32⟩
  | .local .tc .vmem, ⟨7, _⟩ => ⟨S256x256, .f32⟩
  | .local .tc .vmem, ⟨8, _⟩ => ⟨S1x256, .f32⟩
  | .local .tc .vmem, ⟨9, _⟩ => ⟨S256x1, .f32⟩
  | .local .tc .vmem, ⟨10, _⟩ => ⟨S1x1, .f32⟩
  | .local .tc .vmem, ⟨11, _⟩ => ⟨S1x1, .f32⟩
  | .local .scVector .vmem, ⟨0, _⟩ => ⟨S4096, .i32⟩
  | .local .scVector .vmem, ⟨1, _⟩ => ⟨S4096, .i32⟩
  | .local .scVector .vmem, ⟨2, _⟩ => ⟨S32x256, .f32⟩
  | _, _ => ⟨S2x500, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_arg1_scv : Ref sig .scVector := ⟨.hbm, 1, rfl⟩
abbrev main_v23_scv : Ref sig .scVector := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc2_stg0_0 : Ref sig .tc := ⟨.vmem, 4, rfl⟩
abbrev cc2_stg1_0 : Ref sig .tc := ⟨.vmem, 5, rfl⟩
abbrev cc2_stg2_0 : Ref sig .tc := ⟨.vmem, 6, rfl⟩
abbrev cc2_stg3_0 : Ref sig .tc := ⟨.vmem, 7, rfl⟩
abbrev cc2_stg4_0 : Ref sig .tc := ⟨.vmem, 8, rfl⟩
abbrev cc2_stg5_0 : Ref sig .tc := ⟨.vmem, 9, rfl⟩
abbrev cc2_stg6_0 : Ref sig .tc := ⟨.vmem, 10, rfl⟩
abbrev cc2_stg7_0 : Ref sig .tc := ⟨.vmem, 11, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem2_0 : DmaSem sig := 2
abbrev cc0_sem3_0 : DmaSem sig := 3
abbrev cc2_sem0_0 : DmaSem sig := 7
abbrev cc2_sem1_0 : DmaSem sig := 8
abbrev cc2_sem2_0 : DmaSem sig := 9
abbrev cc2_sem3_0 : DmaSem sig := 10
abbrev cc2_sem4_0 : DmaSem sig := 11
abbrev cc2_sem5_0 : DmaSem sig := 12
abbrev cc2_sem6_0 : DmaSem sig := 13
abbrev cc2_sem7_0 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S2x500 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![2, 16], ![false, false]⟩

def k1_off1 (i : grid1.Coords) : Fin 2 → Nat :=
  let c0_i32_11 : BitVec 32 := 0#32
  let c3968_i32 : BitVec 32 := 3968#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v31 : BitVec 32 := Scalar.muli c3968_i32 v11
  ![0, v31.toNat]
def k1_off2 (i : grid1.Coords) : Fin 2 → Nat :=
  let c1_i32_13 : BitVec 32 := 1#32
  let c3968_i32_12 : BitVec 32 := 3968#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v32 : BitVec 32 := Scalar.muli c3968_i32_12 v11
  ![1, v32.toNat]
@[reducible] def k1_t1_loop : Scf.Loop 32 :=
  let c0_i32_15 : BitVec 32 := 0#32
  let c32_i32_16 : BitVec 32 := 32#32
  let v34 : BitVec 32 := Scalar.addi c0_i32_15 c32_i32_16
  let c1_i32_17 : BitVec 32 := 1#32
  ⟨c0_i32_15, v34, c1_i32_17⟩
def k1_off3 (k1_t1 : Fin k1_t1_loop.trips) : Fin 2 → Nat :=
  let c0_i32_15 : BitVec 32 := 0#32
  let c1_i32_17 : BitVec 32 := 1#32
  let arg7 : BitVec 32 := Scf.iv c0_i32_15 c1_i32_17 k1_t1
  let v39 : Index := Scalar.indexCast arg7
  let c0 : Index := 0#32
  ![v39.toNat, 0]
def k1_off4 (k1_t1 : Fin k1_t1_loop.trips) : Fin 2 → Nat :=
  let c0_i32_15 : BitVec 32 := 0#32
  let c1_i32_17 : BitVec 32 := 1#32
  let arg7 : BitVec 32 := Scf.iv c0_i32_15 c1_i32_17 k1_t1
  let v41 : Index := Scalar.indexCast arg7
  let c16 : Index := 16#32
  ![v41.toNat, 16]
def k1_off5 (k1_t1 : Fin k1_t1_loop.trips) : Fin 2 → Nat :=
  let c0_i32_15 : BitVec 32 := 0#32
  let c1_i32_17 : BitVec 32 := 1#32
  let arg7 : BitVec 32 := Scf.iv c0_i32_15 c1_i32_17 k1_t1
  let v43 : Index := Scalar.indexCast arg7
  let c32 : Index := 32#32
  ![v43.toNat, 32]
def k1_off6 (k1_t1 : Fin k1_t1_loop.trips) : Fin 2 → Nat :=
  let c0_i32_15 : BitVec 32 := 0#32
  let c1_i32_17 : BitVec 32 := 1#32
  let arg7 : BitVec 32 := Scf.iv c0_i32_15 c1_i32_17 k1_t1
  let v45 : Index := Scalar.indexCast arg7
  let c48 : Index := 48#32
  ![v45.toNat, 48]
def k1_off7 (k1_t1 : Fin k1_t1_loop.trips) : Fin 2 → Nat :=
  let c0_i32_15 : BitVec 32 := 0#32
  let c1_i32_17 : BitVec 32 := 1#32
  let arg7 : BitVec 32 := Scf.iv c0_i32_15 c1_i32_17 k1_t1
  let v47 : Index := Scalar.indexCast arg7
  let c64 : Index := 64#32
  ![v47.toNat, 64]
def k1_off8 (k1_t1 : Fin k1_t1_loop.trips) : Fin 2 → Nat :=
  let c0_i32_15 : BitVec 32 := 0#32
  let c1_i32_17 : BitVec 32 := 1#32
  let arg7 : BitVec 32 := Scf.iv c0_i32_15 c1_i32_17 k1_t1
  let v49 : Index := Scalar.indexCast arg7
  let c80 : Index := 80#32
  ![v49.toNat, 80]
def k1_off9 (k1_t1 : Fin k1_t1_loop.trips) : Fin 2 → Nat :=
  let c0_i32_15 : BitVec 32 := 0#32
  let c1_i32_17 : BitVec 32 := 1#32
  let arg7 : BitVec 32 := Scf.iv c0_i32_15 c1_i32_17 k1_t1
  let v51 : Index := Scalar.indexCast arg7
  let c96 : Index := 96#32
  ![v51.toNat, 96]
def k1_off10 (k1_t1 : Fin k1_t1_loop.trips) : Fin 2 → Nat :=
  let c0_i32_15 : BitVec 32 := 0#32
  let c1_i32_17 : BitVec 32 := 1#32
  let arg7 : BitVec 32 := Scf.iv c0_i32_15 c1_i32_17 k1_t1
  let v53 : Index := Scalar.indexCast arg7
  let c112 : Index := 112#32
  ![v53.toNat, 112]
def k1_off11 (k1_t1 : Fin k1_t1_loop.trips) : Fin 2 → Nat :=
  let c0_i32_15 : BitVec 32 := 0#32
  let c1_i32_17 : BitVec 32 := 1#32
  let arg7 : BitVec 32 := Scf.iv c0_i32_15 c1_i32_17 k1_t1
  let v55 : Index := Scalar.indexCast arg7
  let c128 : Index := 128#32
  ![v55.toNat, 128]
def k1_off12 (k1_t1 : Fin k1_t1_loop.trips) : Fin 2 → Nat :=
  let c0_i32_15 : BitVec 32 := 0#32
  let c1_i32_17 : BitVec 32 := 1#32
  let arg7 : BitVec 32 := Scf.iv c0_i32_15 c1_i32_17 k1_t1
  let v57 : Index := Scalar.indexCast arg7
  let c144 : Index := 144#32
  ![v57.toNat, 144]
def k1_off13 (k1_t1 : Fin k1_t1_loop.trips) : Fin 2 → Nat :=
  let c0_i32_15 : BitVec 32 := 0#32
  let c1_i32_17 : BitVec 32 := 1#32
  let arg7 : BitVec 32 := Scf.iv c0_i32_15 c1_i32_17 k1_t1
  let v59 : Index := Scalar.indexCast arg7
  let c160 : Index := 160#32
  ![v59.toNat, 160]
def k1_off14 (k1_t1 : Fin k1_t1_loop.trips) : Fin 2 → Nat :=
  let c0_i32_15 : BitVec 32 := 0#32
  let c1_i32_17 : BitVec 32 := 1#32
  let arg7 : BitVec 32 := Scf.iv c0_i32_15 c1_i32_17 k1_t1
  let v61 : Index := Scalar.indexCast arg7
  let c176 : Index := 176#32
  ![v61.toNat, 176]
def k1_off15 (k1_t1 : Fin k1_t1_loop.trips) : Fin 2 → Nat :=
  let c0_i32_15 : BitVec 32 := 0#32
  let c1_i32_17 : BitVec 32 := 1#32
  let arg7 : BitVec 32 := Scf.iv c0_i32_15 c1_i32_17 k1_t1
  let v63 : Index := Scalar.indexCast arg7
  let c192 : Index := 192#32
  ![v63.toNat, 192]
def k1_off16 (k1_t1 : Fin k1_t1_loop.trips) : Fin 2 → Nat :=
  let c0_i32_15 : BitVec 32 := 0#32
  let c1_i32_17 : BitVec 32 := 1#32
  let arg7 : BitVec 32 := Scf.iv c0_i32_15 c1_i32_17 k1_t1
  let v65 : Index := Scalar.indexCast arg7
  let c208 : Index := 208#32
  ![v65.toNat, 208]
def k1_off17 (k1_t1 : Fin k1_t1_loop.trips) : Fin 2 → Nat :=
  let c0_i32_15 : BitVec 32 := 0#32
  let c1_i32_17 : BitVec 32 := 1#32
  let arg7 : BitVec 32 := Scf.iv c0_i32_15 c1_i32_17 k1_t1
  let v67 : Index := Scalar.indexCast arg7
  let c224 : Index := 224#32
  ![v67.toNat, 224]
def k1_off18 (k1_t1 : Fin k1_t1_loop.trips) : Fin 2 → Nat :=
  let c0_i32_15 : BitVec 32 := 0#32
  let c1_i32_17 : BitVec 32 := 1#32
  let arg7 : BitVec 32 := Scf.iv c0_i32_15 c1_i32_17 k1_t1
  let v69 : Index := Scalar.indexCast arg7
  let c240 : Index := 240#32
  ![v69.toNat, 240]
@[reducible] def k1_t2_loop : Scf.Loop 32 :=
  let c0_i32_21 : BitVec 32 := 0#32
  let c50_i32 : BitVec 32 := 50#32
  let v36 : BitVec 32 := Scalar.addi c0_i32_21 c50_i32
  let c1_i32_22 : BitVec 32 := 1#32
  ⟨c0_i32_21, v36, c1_i32_22⟩
def k1_off19 (i : grid1.Coords) (k1_t2 : Fin k1_t2_loop.trips) : Fin 1 → Nat :=
  let c32_i32_10 : BitVec 32 := 32#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v30 : BitVec 32 := Scalar.muli c32_i32_10 v11
  let c5_i32 : BitVec 32 := 5#32
  let c0_i32_21 : BitVec 32 := 0#32
  let c1_i32_22 : BitVec 32 := 1#32
  let arg7 : BitVec 32 := Scf.iv c0_i32_21 c1_i32_22 k1_t2
  let v39 : BitVec 32 := Scalar.muli c5_i32 arg7
  let c0_i32_24 : BitVec 32 := 0#32
  let v40 : BitVec 32 := Scalar.addi v39 c0_i32_24
  let c16_i32_25 : BitVec 32 := 16#32
  let v41 : BitVec 32 := Scalar.muli v40 c16_i32_25
  let v42 : BitVec 32 := Scalar.addi v30 v41
  let v43 : Index := Scalar.indexCast v42
  ![v43.toNat]

def k1_chk1 (v44 : IVec S16 32) (v56 : IVec S16 32) : Prop :=
  (∀ a x, ((![v56, v44] : Fin 2 → IVec S16 32) a x).toNat < S32x256.size a)
theorem k1_idx1_inb : ∀ (v44 : IVec S16 32) (v56 : IVec S16 32) (k1_hw1 : k1_chk1 v44 v56), ∀ a x, ((![v56, v44] : Fin 2 → IVec S16 32) a x).toNat < S32x256.size a := fun v44 v56 k1_hw1 => k1_hw1
def k1_off20 (i : grid1.Coords) (k1_t2 : Fin k1_t2_loop.trips) : Fin 1 → Nat :=
  let c32_i32_10 : BitVec 32 := 32#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v30 : BitVec 32 := Scalar.muli c32_i32_10 v11
  let c5_i32_28 : BitVec 32 := 5#32
  let c0_i32_21 : BitVec 32 := 0#32
  let c1_i32_22 : BitVec 32 := 1#32
  let arg7 : BitVec 32 := Scf.iv c0_i32_21 c1_i32_22 k1_t2
  let v57 : BitVec 32 := Scalar.muli c5_i32_28 arg7
  let c1_i32_29 : BitVec 32 := 1#32
  let v58 : BitVec 32 := Scalar.addi v57 c1_i32_29
  let c16_i32_30 : BitVec 32 := 16#32
  let v59 : BitVec 32 := Scalar.muli v58 c16_i32_30
  let v60 : BitVec 32 := Scalar.addi v30 v59
  let v61 : Index := Scalar.indexCast v60
  ![v61.toNat]

def k1_chk2 (v62 : IVec S16 32) (v74 : IVec S16 32) : Prop :=
  (∀ a x, ((![v74, v62] : Fin 2 → IVec S16 32) a x).toNat < S32x256.size a)
theorem k1_idx2_inb : ∀ (v62 : IVec S16 32) (v74 : IVec S16 32) (k1_hw2 : k1_chk2 v62 v74), ∀ a x, ((![v74, v62] : Fin 2 → IVec S16 32) a x).toNat < S32x256.size a := fun v62 v74 k1_hw2 => k1_hw2
def k1_off21 (i : grid1.Coords) (k1_t2 : Fin k1_t2_loop.trips) : Fin 1 → Nat :=
  let c32_i32_10 : BitVec 32 := 32#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v30 : BitVec 32 := Scalar.muli c32_i32_10 v11
  let c5_i32_33 : BitVec 32 := 5#32
  let c0_i32_21 : BitVec 32 := 0#32
  let c1_i32_22 : BitVec 32 := 1#32
  let arg7 : BitVec 32 := Scf.iv c0_i32_21 c1_i32_22 k1_t2
  let v75 : BitVec 32 := Scalar.muli c5_i32_33 arg7
  let c2_i32 : BitVec 32 := 2#32
  let v76 : BitVec 32 := Scalar.addi v75 c2_i32
  let c16_i32_34 : BitVec 32 := 16#32
  let v77 : BitVec 32 := Scalar.muli v76 c16_i32_34
  let v78 : BitVec 32 := Scalar.addi v30 v77
  let v79 : Index := Scalar.indexCast v78
  ![v79.toNat]

def k1_chk3 (v80 : IVec S16 32) (v92 : IVec S16 32) : Prop :=
  (∀ a x, ((![v92, v80] : Fin 2 → IVec S16 32) a x).toNat < S32x256.size a)
theorem k1_idx3_inb : ∀ (v80 : IVec S16 32) (v92 : IVec S16 32) (k1_hw3 : k1_chk3 v80 v92), ∀ a x, ((![v92, v80] : Fin 2 → IVec S16 32) a x).toNat < S32x256.size a := fun v80 v92 k1_hw3 => k1_hw3
def k1_off22 (i : grid1.Coords) (k1_t2 : Fin k1_t2_loop.trips) : Fin 1 → Nat :=
  let c32_i32_10 : BitVec 32 := 32#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v30 : BitVec 32 := Scalar.muli c32_i32_10 v11
  let c5_i32_37 : BitVec 32 := 5#32
  let c0_i32_21 : BitVec 32 := 0#32
  let c1_i32_22 : BitVec 32 := 1#32
  let arg7 : BitVec 32 := Scf.iv c0_i32_21 c1_i32_22 k1_t2
  let v93 : BitVec 32 := Scalar.muli c5_i32_37 arg7
  let c3_i32 : BitVec 32 := 3#32
  let v94 : BitVec 32 := Scalar.addi v93 c3_i32
  let c16_i32_38 : BitVec 32 := 16#32
  let v95 : BitVec 32 := Scalar.muli v94 c16_i32_38
  let v96 : BitVec 32 := Scalar.addi v30 v95
  let v97 : Index := Scalar.indexCast v96
  ![v97.toNat]

def k1_chk4 (v98 : IVec S16 32) (v110 : IVec S16 32) : Prop :=
  (∀ a x, ((![v110, v98] : Fin 2 → IVec S16 32) a x).toNat < S32x256.size a)
theorem k1_idx4_inb : ∀ (v98 : IVec S16 32) (v110 : IVec S16 32) (k1_hw4 : k1_chk4 v98 v110), ∀ a x, ((![v110, v98] : Fin 2 → IVec S16 32) a x).toNat < S32x256.size a := fun v98 v110 k1_hw4 => k1_hw4
def k1_off23 (i : grid1.Coords) (k1_t2 : Fin k1_t2_loop.trips) : Fin 1 → Nat :=
  let c32_i32_10 : BitVec 32 := 32#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v30 : BitVec 32 := Scalar.muli c32_i32_10 v11
  let c5_i32_41 : BitVec 32 := 5#32
  let c0_i32_21 : BitVec 32 := 0#32
  let c1_i32_22 : BitVec 32 := 1#32
  let arg7 : BitVec 32 := Scf.iv c0_i32_21 c1_i32_22 k1_t2
  let v111 : BitVec 32 := Scalar.muli c5_i32_41 arg7
  let c4_i32_42 : BitVec 32 := 4#32
  let v112 : BitVec 32 := Scalar.addi v111 c4_i32_42
  let c16_i32_43 : BitVec 32 := 16#32
  let v113 : BitVec 32 := Scalar.muli v112 c16_i32_43
  let v114 : BitVec 32 := Scalar.addi v30 v113
  let v115 : Index := Scalar.indexCast v114
  ![v115.toNat]

def k1_chk5 (v116 : IVec S16 32) (v128 : IVec S16 32) : Prop :=
  (∀ a x, ((![v128, v116] : Fin 2 → IVec S16 32) a x).toNat < S32x256.size a)
theorem k1_idx5_inb : ∀ (v116 : IVec S16 32) (v128 : IVec S16 32) (k1_hw5 : k1_chk5 v116 v128), ∀ a x, ((![v128, v116] : Fin 2 → IVec S16 32) a x).toNat < S32x256.size a := fun v116 v128 k1_hw5 => k1_hw5
def k1_off24 (i : grid1.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c256_i32 : BitVec 32 := 256#32
  let v37 : BitVec 32 := Scalar.muli v11 c256_i32
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c4_i32_3 : BitVec 32 := 4#32
  let c0_i32_6 : BitVec 32 := 0#32
  let v18 : BitVec 1 := Scalar.cmpi .sgt c4_i32_3 c0_i32_6
  let v19 : BitVec 32 := Scalar.extui v18
  let c0_i32_7 : BitVec 32 := 0#32
  let v20 : BitVec 1 := Scalar.cmpi .slt c4_i32_3 c0_i32_7
  let v21 : BitVec 32 := Scalar.extui v20
  let v22 : BitVec 32 := Scalar.subi v19 v21
  let v23 : BitVec 1 := Scalar.cmpi .ne v17 v22
  let v24 : BitVec 32 := Scalar.remsi v1 c4_i32_3
  let c0_i32_8 : BitVec 32 := 0#32
  let v25 : BitVec 1 := Scalar.cmpi .ne v24 c0_i32_8
  let v26 : BitVec 1 := Scalar.andi v23 v25
  let v12 : BitVec 32 := Scalar.divsi v1 c4_i32_3
  let c1_i32_9 : BitVec 32 := 1#32
  let v27 : BitVec 32 := Scalar.subi v12 c1_i32_9
  let v28 : BitVec 32 := Scalar.select v26 v27 v12
  let c32_i32 : BitVec 32 := 32#32
  let v29 : BitVec 32 := Scalar.muli v28 c32_i32
  let v38 : BitVec 32 := Scalar.addi v37 v29
  let c0_i32_24_r2 : BitVec 32 := 0#32
  ![v38.toNat, 0]
abbrev grid2 : Pipeline.Grid := .none

abbrev stage2_0 : Fin 1 → Memref sig .tc .vmem S1024x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S256x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_nodes" => some ((250⁻¹ : ℝ) : EReal)
  | _ => none
-- ==== ReferenceIdeal.lean ====
abbrev S2x500 : Shape := ⟨2, ![2, 500]⟩
abbrev S2x16000 : Shape := ⟨2, ![2, 16000]⟩
abbrev S512x256 : Shape := ⟨2, ![512, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S500 : Shape := ⟨1, ![500]⟩
abbrev S500x1 : Shape := ⟨2, ![500, 1]⟩
abbrev S128 : Shape := ⟨1, ![128]⟩
abbrev S_ : Shape := ⟨0, ![]⟩
abbrev S1x128 : Shape := ⟨2, ![1, 128]⟩
abbrev S500x128 : Shape := ⟨2, ![500, 128]⟩
abbrev S500x128x1 : Shape := ⟨3, ![500, 128, 1]⟩
abbrev S500x128x2 : Shape := ⟨3, ![500, 128, 2]⟩
abbrev S500x256 : Shape := ⟨2, ![500, 256]⟩
abbrev S250x2x256 : Shape := ⟨3, ![250, 2, 256]⟩
abbrev S1x500 : Shape := ⟨2, ![1, 500]⟩
abbrev S500x2 : Shape := ⟨2, ![500, 2]⟩
abbrev S250x512 : Shape := ⟨2, ![250, 512]⟩
abbrev S250 : Shape := ⟨1, ![250]⟩
abbrev S1x16000 : Shape := ⟨2, ![1, 16000]⟩
abbrev S16000 : Shape := ⟨1, ![16000]⟩
abbrev S16250 : Shape := ⟨1, ![16250]⟩
abbrev S16250x1 : Shape := ⟨2, ![16250, 1]⟩
abbrev S250x256 : Shape := ⟨2, ![250, 256]⟩
abbrev S16250x256 : Shape := ⟨2, ![16250, 256]⟩
abbrev S1x256 : Shape := ⟨2, ![1, 256]⟩
abbrev S1x1 : Shape := ⟨2, ![1, 1]⟩

abbrev nBuf : Space → Nat
  | .hbm => 237
  | .vmem => 0
  | .smem => 0
  | _ => 0

abbrev hbmTy0_0 (i : Nat) : BufTy := match i % 128 with
  | 0 => ⟨S2x500, .i32⟩
  | 1 => ⟨S2x16000, .i32⟩
  | 2 => ⟨S512x256, .f32⟩
  | 3 => ⟨S256, .f32⟩
  | 4 => ⟨S256x256, .f32⟩
  | 5 => ⟨S256, .f32⟩
  | 6 => ⟨S256x1, .f32⟩
  | 7 => ⟨S1, .f32⟩
  | 8 => ⟨S500, .f32⟩
  | 9 => ⟨S500x1, .f32⟩
  | 10 => ⟨S128, .f32⟩
  | 11 => ⟨S_, .f32⟩
  | 12 => ⟨S128, .f32⟩
  | 13 => ⟨S128, .f32⟩
  | 14 => ⟨S_, .f32⟩
  | 15 => ⟨S128, .f32⟩
  | 16 => ⟨S128, .f32⟩
  | 17 => ⟨S_, .f32⟩
  | 18 => ⟨S128, .f32⟩
  | 19 => ⟨S128, .f32⟩
  | 20 => ⟨S128, .f32⟩
  | 21 => ⟨S1x128, .f32⟩
  | 22 => ⟨S500x128, .f32⟩
  | 23 => ⟨S500x128, .f32⟩
  | 24 => ⟨S500x128, .f32⟩
  | 25 => ⟨S500x128, .f32⟩
  | 26 => ⟨S1x128, .f32⟩
  | 27 => ⟨S500x128, .f32⟩
  | 28 => ⟨S500x128, .f32⟩
  | 29 => ⟨S500x128, .f32⟩
  | 30 => ⟨S500x128, .f32⟩
  | 31 => ⟨S500x128x1, .f32⟩
  | 32 => ⟨S500x128x1, .f32⟩
  | 33 => ⟨S500x128x2, .f32⟩
  | 34 => ⟨S500x256, .f32⟩
  | 35 => ⟨S_, .f32⟩
  | 36 => ⟨S250x2x256, .f32⟩
  | 37 => ⟨S1x500, .i32⟩
  | 38 => ⟨S500, .i32⟩
  | 39 => ⟨S1x500, .i32⟩
  | 40 => ⟨S500, .i32⟩
  | 41 => ⟨S_, .i32⟩
  | 42 => ⟨S500, .i32⟩
  | 43 => ⟨S500, .i1⟩
  | 44 => ⟨S_, .i32⟩
  | 45 => ⟨S500, .i32⟩
  | 46 => ⟨S500, .i32⟩
  | 47 => ⟨S500, .i32⟩
  | 48 => ⟨S_, .i32⟩
  | 49 => ⟨S500, .i32⟩
  | 50 => ⟨S500, .i1⟩
  | 51 => ⟨S_, .i32⟩
  | 52 => ⟨S500, .i32⟩
  | 53 => ⟨S500, .i32⟩
  | 54 => ⟨S500, .i32⟩
  | 55 => ⟨S500x1, .i32⟩
  | 56 => ⟨S500x1, .i32⟩
  | 57 => ⟨S500x2, .i32⟩
  | 58 => ⟨S250x2x256, .f32⟩
  | 59 => ⟨S250x512, .f32⟩
  | 60 => ⟨S250, .i32⟩
  | 61 => ⟨S1x16000, .i32⟩
  | 62 => ⟨S16000, .i32⟩
  | 63 => ⟨S16250, .i32⟩
  | 64 => ⟨S1x16000, .i32⟩
  | 65 => ⟨S16000, .i32⟩
  | 66 => ⟨S16250, .i32⟩
  | 67 => ⟨S_, .f32⟩
  | 68 => ⟨S250, .f32⟩
  | 69 => ⟨S_, .i32⟩
  | 70 => ⟨S16250, .i32⟩
  | 71 => ⟨S16250, .i1⟩
  | 72 => ⟨S_, .i32⟩
  | 73 => ⟨S16250, .i32⟩
  | 74 => ⟨S16250, .i32⟩
  | 75 => ⟨S16250, .i32⟩
  | 76 => ⟨S16250x1, .i32⟩
  | 77 => ⟨S_, .f32⟩
  | 78 => ⟨S16250, .f32⟩
  | 79 => ⟨S250, .f32⟩
  | 80 => ⟨S_, .f32⟩
  | 81 => ⟨S250, .f32⟩
  | 82 => ⟨S250, .i1⟩
  | 83 => ⟨S250, .f32⟩
  | 84 => ⟨S_, .f32⟩
  | 85 => ⟨S250, .f32⟩
  | 86 => ⟨S250, .f32⟩
  | 87 => ⟨S_, .f32⟩
  | 88 => ⟨S_, .f32⟩
  | 89 => ⟨S250, .f32⟩
  | 90 => ⟨S250, .f32⟩
  | 91 => ⟨S_, .i32⟩
  | 92 => ⟨S16250, .i32⟩
  | 93 => ⟨S16250, .i1⟩
  | 94 => ⟨S_, .i32⟩
  | 95 => ⟨S16250, .i32⟩
  | 96 => ⟨S16250, .i32⟩
  | 97 => ⟨S16250, .i32⟩
  | 98 => ⟨S16250x1, .i32⟩
  | 99 => ⟨S16250, .f32⟩
  | 100 => ⟨S_, .i32⟩
  | 101 => ⟨S16250, .i32⟩
  | 102 => ⟨S16250, .i1⟩
  | 103 => ⟨S_, .i32⟩
  | 104 => ⟨S16250, .i32⟩
  | 105 => ⟨S16250, .i32⟩
  | 106 => ⟨S16250, .i32⟩
  | 107 => ⟨S16250x1, .i32⟩
  | 108 => ⟨S16250, .f32⟩
  | 109 => ⟨S16250, .f32⟩
  | 110 => ⟨S250x256, .f32⟩
  | 111 => ⟨S16250x1, .f32⟩
  | 112 => ⟨S_, .i32⟩
  | 113 => ⟨S16250, .i32⟩
  | 114 => ⟨S16250, .i1⟩
  | 115 => ⟨S_, .i32⟩
  | 116 => ⟨S16250, .i32⟩
  | 117 => ⟨S16250, .i32⟩
  | 118 => ⟨S16250, .i32⟩
  | 119 => ⟨S16250x1, .i32⟩
  | 120 => ⟨S16250x256, .f32⟩
  | 121 => ⟨S16250x256, .f32⟩
  | 122 => ⟨S16250x256, .f32⟩
  | 123 => ⟨S_, .f32⟩
  | 124 => ⟨S250x256, .f32⟩
  | 125 => ⟨S_, .i32⟩
  | 126 => ⟨S16250, .i32⟩
  | 127 => ⟨S16250, .i1⟩
  | _ => ⟨S2x500, .i32⟩

abbrev hbmTy0_1 (i : Nat) : BufTy := match i % 128 with
  | 0 => ⟨S_, .i32⟩
  | 1 => ⟨S16250, .i32⟩
  | 2 => ⟨S16250, .i32⟩
  | 3 => ⟨S16250, .i32⟩
  | 4 => ⟨S16250x1, .i32⟩
  | 5 => ⟨S250x256, .f32⟩
  | 6 => ⟨S1x256, .f32⟩
  | 7 => ⟨S250x256, .f32⟩
  | 8 => ⟨S250x256, .f32⟩
  | 9 => ⟨S_, .f32⟩
  | 10 => ⟨S250x256, .f32⟩
  | 11 => ⟨S250x256, .f32⟩
  | 12 => ⟨S250, .i32⟩
  | 13 => ⟨S1x16000, .i32⟩
  | 14 => ⟨S16000, .i32⟩
  | 15 => ⟨S16250, .i32⟩
  | 16 => ⟨S1x16000, .i32⟩
  | 17 => ⟨S16000, .i32⟩
  | 18 => ⟨S16250, .i32⟩
  | 19 => ⟨S_, .f32⟩
  | 20 => ⟨S250, .f32⟩
  | 21 => ⟨S_, .i32⟩
  | 22 => ⟨S16250, .i32⟩
  | 23 => ⟨S16250, .i1⟩
  | 24 => ⟨S_, .i32⟩
  | 25 => ⟨S16250, .i32⟩
  | 26 => ⟨S16250, .i32⟩
  | 27 => ⟨S16250, .i32⟩
  | 28 => ⟨S16250x1, .i32⟩
  | 29 => ⟨S_, .f32⟩
  | 30 => ⟨S16250, .f32⟩
  | 31 => ⟨S250, .f32⟩
  | 32 => ⟨S_, .f32⟩
  | 33 => ⟨S250, .f32⟩
  | 34 => ⟨S250, .i1⟩
  | 35 => ⟨S250, .f32⟩
  | 36 => ⟨S_, .f32⟩
  | 37 => ⟨S250, .f32⟩
  | 38 => ⟨S250, .f32⟩
  | 39 => ⟨S_, .f32⟩
  | 40 => ⟨S_, .f32⟩
  | 41 => ⟨S250, .f32⟩
  | 42 => ⟨S250, .f32⟩
  | 43 => ⟨S_, .i32⟩
  | 44 => ⟨S16250, .i32⟩
  | 45 => ⟨S16250, .i1⟩
  | 46 => ⟨S_, .i32⟩
  | 47 => ⟨S16250, .i32⟩
  | 48 => ⟨S16250, .i32⟩
  | 49 => ⟨S16250, .i32⟩
  | 50 => ⟨S16250x1, .i32⟩
  | 51 => ⟨S16250, .f32⟩
  | 52 => ⟨S_, .i32⟩
  | 53 => ⟨S16250, .i32⟩
  | 54 => ⟨S16250, .i1⟩
  | 55 => ⟨S_, .i32⟩
  | 56 => ⟨S16250, .i32⟩
  | 57 => ⟨S16250, .i32⟩
  | 58 => ⟨S16250, .i32⟩
  | 59 => ⟨S16250x1, .i32⟩
  | 60 => ⟨S16250, .f32⟩
  | 61 => ⟨S16250, .f32⟩
  | 62 => ⟨S250x256, .f32⟩
  | 63 => ⟨S16250x1, .f32⟩
  | 64 => ⟨S_, .i32⟩
  | 65 => ⟨S16250, .i32⟩
  | 66 => ⟨S16250, .i1⟩
  | 67 => ⟨S_, .i32⟩
  | 68 => ⟨S16250, .i32⟩
  | 69 => ⟨S16250, .i32⟩
  | 70 => ⟨S16250, .i32⟩
  | 71 => ⟨S16250x1, .i32⟩
  | 72 => ⟨S16250x256, .f32⟩
  | 73 => ⟨S16250x256, .f32⟩
  | 74 => ⟨S16250x256, .f32⟩
  | 75 => ⟨S_, .f32⟩
  | 76 => ⟨S250x256, .f32⟩
  | 77 => ⟨S_, .i32⟩
  | 78 => ⟨S16250, .i32⟩
  | 79 => ⟨S16250, .i1⟩
  | 80 => ⟨S_, .i32⟩
  | 81 => ⟨S16250, .i32⟩
  | 82 => ⟨S16250, .i32⟩
  | 83 => ⟨S16250, .i32⟩
  | 84 => ⟨S16250x1, .i32⟩
  | 85 => ⟨S250x256, .f32⟩
  | 86 => ⟨S1x256, .f32⟩
  | 87 => ⟨S250x256, .f32⟩
  | 88 => ⟨S250x256, .f32⟩
  | 89 => ⟨S_, .f32⟩
  | 90 => ⟨S250x256, .f32⟩
  | 91 => ⟨S250x256, .f32⟩
  | 92 => ⟨S_, .f32⟩
  | 93 => ⟨S256, .f32⟩
  | 94 => ⟨S1x256, .f32⟩
  | 95 => ⟨S_, .f32⟩
  | 96 => ⟨S1x256, .f32⟩
  | 97 => ⟨S1x256, .f32⟩
  | 98 => ⟨S1x1, .f32⟩
  | 99 => ⟨S1x1, .f32⟩
  | 100 => ⟨S1x1, .f32⟩
  | 101 => ⟨S1x1, .f32⟩
  | 102 => ⟨S1x1, .f32⟩
  | 103 => ⟨S_, .f32⟩
  | 104 => ⟨S1x1, .f32⟩
  | 105 => ⟨S1x1, .f32⟩
  | 106 => ⟨S_, .f32⟩
  | 107 => ⟨S1x1, .f32⟩
  | 108 => ⟨S1x1, .f32⟩
  | _ => ⟨S2x500, .i32⟩

abbrev hbmTy (i : Nat) : BufTy := match i / 128 with
  | 0 => hbmTy0_0 i
  | 1 => hbmTy0_1 i
  | _ => ⟨S2x500, .i32⟩

abbrev bufTy : (tb : Table) → Fin (tcTables nBuf tb) → BufTy
  | .hbm, ⟨i, _⟩ => hbmTy i
  | _, _ => ⟨S2x500, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c : Ref sig .tc := ⟨.hbm, 41, rfl⟩
abbrev main_v29 : Ref sig .tc := ⟨.hbm, 42, rfl⟩
abbrev main_v30 : Ref sig .tc := ⟨.hbm, 43, rfl⟩
abbrev main_c_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_4 : Ref sig .tc := ⟨.hbm, 48, rfl⟩
abbrev main_v34 : Ref sig .tc := ⟨.hbm, 49, rfl⟩
abbrev main_v35 : Ref sig .tc := ⟨.hbm, 50, rfl⟩
abbrev main_c_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_6 : Ref sig .tc := ⟨.hbm, 67, rfl⟩
abbrev main_v51 : Ref sig .tc := ⟨.hbm, 68, rfl⟩
abbrev main_c_7 : Ref sig .tc := ⟨.hbm, 69, rfl⟩
abbrev main_v52 : Ref sig .tc := ⟨.hbm, 70, rfl⟩
abbrev main_v53 : Ref sig .tc := ⟨.hbm, 71, rfl⟩
abbrev main_c_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_9 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_11 : Ref sig .tc := ⟨.hbm, 84, rfl⟩
abbrev main_v63 : Ref sig .tc := ⟨.hbm, 85, rfl⟩
abbrev main_v64 : Ref sig .tc := ⟨.hbm, 86, rfl⟩
abbrev main_cst_12 : Ref sig .tc := ⟨.hbm, 87, rfl⟩
abbrev main_call0_v0 : Ref sig .tc := ⟨.hbm, 88, rfl⟩
abbrev main_call0_v1 : Ref sig .tc := ⟨.hbm, 89, rfl⟩
abbrev main_v65 : Ref sig .tc := ⟨.hbm, 90, rfl⟩
abbrev main_c_13 : Ref sig .tc := ⟨.hbm, 91, rfl⟩
abbrev main_v66 : Ref sig .tc := ⟨.hbm, 92, rfl⟩
abbrev main_v67 : Ref sig .tc := ⟨.hbm, 93, rfl⟩
abbrev main_c_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_15 : Ref sig .tc := ⟨.hbm, 100, rfl⟩
abbrev main_v73 : Ref sig .tc := ⟨.hbm, 101, rfl⟩
abbrev main_v74 : Ref sig .tc := ⟨.hbm, 102, rfl⟩
abbrev main_c_16 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_17 : Ref sig .tc := ⟨.hbm, 112, rfl⟩
abbrev main_v83 : Ref sig .tc := ⟨.hbm, 113, rfl⟩
abbrev main_v84 : Ref sig .tc := ⟨.hbm, 114, rfl⟩
abbrev main_c_18 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_19 : Ref sig .tc := ⟨.hbm, 123, rfl⟩
abbrev main_v92 : Ref sig .tc := ⟨.hbm, 124, rfl⟩
abbrev main_c_20 : Ref sig .tc := ⟨.hbm, 125, rfl⟩
abbrev main_v93 : Ref sig .tc := ⟨.hbm, 126, rfl⟩
abbrev main_v94 : Ref sig .tc := ⟨.hbm, 127, rfl⟩
abbrev main_c_21 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_call1_cst : Ref sig .tc := ⟨.hbm, 137, rfl⟩
abbrev main_call1_v0 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_22 : Ref sig .tc := ⟨.hbm, 147, rfl⟩
abbrev main_v111 : Ref sig .tc := ⟨.hbm, 148, rfl⟩
abbrev main_c_23 : Ref sig .tc := ⟨.hbm, 149, rfl⟩
abbrev main_v112 : Ref sig .tc := ⟨.hbm, 150, rfl⟩
abbrev main_v113 : Ref sig .tc := ⟨.hbm, 151, rfl⟩
abbrev main_c_24 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_25 : Ref sig .tc := ⟨.hbm, 157, rfl⟩
abbrev main_v118 : Ref sig .tc := ⟨.hbm, 158, rfl⟩
abbrev main_v119 : Ref sig .tc := ⟨.hbm, 159, rfl⟩
abbrev main_cst_26 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_cst_27 : Ref sig .tc := ⟨.hbm, 164, rfl⟩
abbrev main_v123 : Ref sig .tc := ⟨.hbm, 165, rfl⟩
abbrev main_v124 : Ref sig .tc := ⟨.hbm, 166, rfl⟩
abbrev main_cst_28 : Ref sig .tc := ⟨.hbm, 167, rfl⟩
abbrev main_call2_v0 : Ref sig .tc := ⟨.hbm, 168, rfl⟩
abbrev main_call2_v1 : Ref sig .tc := ⟨.hbm, 169, rfl⟩
abbrev main_v125 : Ref sig .tc := ⟨.hbm, 170, rfl⟩
abbrev main_c_29 : Ref sig .tc := ⟨.hbm, 171, rfl⟩
abbrev main_v126 : Ref sig .tc := ⟨.hbm, 172, rfl⟩
abbrev main_v127 : Ref sig .tc := ⟨.hbm, 173, rfl⟩
abbrev main_c_30 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_c_31 : Ref sig .tc := ⟨.hbm, 180, rfl⟩
abbrev main_v133 : Ref sig .tc := ⟨.hbm, 181, rfl⟩
abbrev main_v134 : Ref sig .tc := ⟨.hbm, 182, rfl⟩
abbrev main_c_32 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_c_33 : Ref sig .tc := ⟨.hbm, 192, rfl⟩
abbrev main_v143 : Ref sig .tc := ⟨.hbm, 193, rfl⟩
abbrev main_v144 : Ref sig .tc := ⟨.hbm, 194, rfl⟩
abbrev main_c_34 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_cst_35 : Ref sig .tc := ⟨.hbm, 203, rfl⟩
abbrev main_v152 : Ref sig .tc := ⟨.hbm, 204, rfl⟩
abbrev main_c_36 : Ref sig .tc := ⟨.hbm, 205, rfl⟩
abbrev main_v153 : Ref sig .tc := ⟨.hbm, 206, rfl⟩
abbrev main_v154 : Ref sig .tc := ⟨.hbm, 207, rfl⟩
abbrev main_c_37 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_call3_cst : Ref sig .tc := ⟨.hbm, 217, rfl⟩
abbrev main_call3_v0 : Ref sig .tc := ⟨.hbm, 218, rfl⟩
abbrev main_v163 : Ref sig .tc := ⟨.hbm, 219, rfl⟩
abbrev main_cst_38 : Ref sig .tc := ⟨.hbm, 220, rfl⟩
abbrev main_v164 : Ref sig .tc := ⟨.hbm, 221, rfl⟩
abbrev main_v165 : Ref sig .tc := ⟨.hbm, 222, rfl⟩
abbrev main_cst_39 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_cst_40 : Ref sig .tc := ⟨.hbm, 231, rfl⟩
abbrev main_v173 : Ref sig .tc := ⟨.hbm, 232, rfl⟩
abbrev main_v174 : Ref sig .tc := ⟨.hbm, 233, rfl⟩
abbrev main_cst_41 : Ref sig .tc := ⟨.hbm, 234, rfl⟩
abbrev main_v175 : Ref sig .tc := ⟨.hbm, 235, rfl⟩
abbrev main_v176 : Ref sig .tc := ⟨.hbm, 236, rfl⟩

abbrev nD : Nat := 1
abbrev τ : Topo := Topo.v7x

variable {F : FTy → Type} [FloatOps F]
-- ==== Proof.Counts.lean ====
/- The value each cell of the SparseCore call's result ends at: one added as often as an edge of the group hits it. -/
module

public import proofs.«01_k».proof.Defs
public import proofs.«01_k».proof.Proof.Gen.KernelIdeal
public import proofs.«01_k».proof.Proof.Gen.KernelIdeal.Skeleton
public import Idealize.ShloMosaic.Lib.SparseCore.Ops

@[expose] public section

noncomputable section

namespace Cert.Proof.K

open Cert.KernelIdeal Cert.KernelIdeal.Gen
open Idealize.ShloMosaic

variable {F : FTy → Type} [FloatOps F]

/-- Zero with one added `n` times, one addition after another. -/
def addN (F : FTy → Type) [FloatOps F] : ℕ → F .f32
  | 0 => Scalar.ofBits .f32 0x00000000#32
  | n + 1 => FloatOps.idxAddf (addN F n) (Scalar.ofBits .f32 0x3F800000#32)

/-- An index of a rank-two shape from its two coordinates. -/
def ix2 (s : Fin 2 → ℕ) (a : Fin (s 0)) (b : Fin (s 1)) : (⟨2, s⟩ : Shape).Idx
  | 0 => a
  | 1 => b
  | ⟨_ + 2, h⟩ => absurd h (Nat.not_lt.2 (Nat.le_add_left _ _))

/-- Word `e` of row `a` of the edge list, as a number. -/
def wd (E : S2x16000.Idx → BitVec 32) (a : Fin 2) (e : ℕ) : ℕ :=
  if h : e < 16000 then (E (ix2 ![2, 16000] a ⟨e, h⟩)).toNat else 0

/-- Edge `e` goes from node `c` to node `r`. -/
def Hit (E : S2x16000.Idx → BitVec 32) (r c e : ℕ) : Prop := wd E 1 e = r ∧ wd E 0 e = c

instance (E : S2x16000.Idx → BitVec 32) (r c : ℕ) : DecidablePred (Hit E r c) := fun _ => inferInstanceAs (Decidable (_ ∧ _))

/-- How many of the first `n` edges of group `g` go from `c` to `r`. -/
def cnt (E : S2x16000.Idx → BitVec 32) (g r c n : ℕ) : ℕ := Nat.count (fun e => Hit E r c (4000 * g + e)) n

/-- A count over a stretch is the sum of the counts over its two parts. -/
theorem cnt_add (E : S2x16000.Idx → BitVec 32) (g r c n k : ℕ) :
    cnt E g r c (n + k) = cnt E g r c n + Nat.count (fun e => Hit E r c (4000 * g + (n + e))) k := by
  unfold cnt; rw [Nat.count_add]

/-- Counting in the list of the numbers below `n` is counting below `n`. -/
theorem countP_finRange (p : ℕ → Bool) (n : ℕ) (q : Fin n → Bool) (h : ∀ k : Fin n, q k = p k.val) :
    (List.finRange n).countP q = Nat.count (fun k => p k = true) n := by
  have hq : q = p ∘ Fin.val := funext h
  rw [hq, ← List.countP_map, List.map_coe_finRange_eq_range]
  clear hq h q
  induction n with
  | zero => rfl
  | succ n ih => rw [List.range_succ, List.countP_append, ih, Nat.count_succ]; simp [List.countP_cons]

/-- What a scatter-add of ones leaves at one cell: one added once for every set lane naming the cell. -/
theorem storeIdx_ones {s : Shape} {d : Fin 1 → ℕ} (f : Vec F s .f32) (idxs : Fin s.rank → IVec ⟨1, d⟩ 32)
    (mask : IVec ⟨1, d⟩ 1) (h : ∀ a x, (idxs a x).toNat < s.size a) (v : Vec F ⟨1, d⟩ .f32)
    (hv : ∀ x, v x = Scalar.ofBits .f32 0x3F800000#32) (j : s.Idx) (n : ℕ) (hf : f j = addN F n) (p : ℕ → Bool)
    (hp : ∀ k : Fin (d 0), p k.val = true ↔ mask (Shape.ofLane k) = 1 ∧ ∀ a, (j a).val = (idxs a (Shape.ofLane k)).toNat) :
    storeIdx f idxs v mask true h j = addN F (n + Nat.count (fun k => p k = true) (d 0)) := by
  rw [← countP_finRange p (d 0) (fun k => p k.val) fun _ => rfl]
  unfold storeIdx
  generalize List.finRange (d 0) = l
  induction l generalizing f n with
  | nil => simpa using hf
  | cons k l ih =>
    rw [List.foldl_cons, List.countP_cons]
    by_cases hm : p k.val = true
    · have h1 := (hp k).1 hm
      refine (ih _ (n + 1) ?_).trans ?_
      · simp only [h1.1, if_true]
        have h2 : ∀ a, (j a).val = (idxAt idxs h (Shape.ofLane k) a).val := h1.2
        rw [if_pos h2]
        have h3 : idxAt idxs h (Shape.ofLane k) = j := funext fun a => Fin.ext (h2 a).symm
        rw [h3, hf, hv]; rfl
      · simp [hm]; congr 1; omega
    · refine (ih _ n ?_).trans ?_
      · by_cases hk : mask (Shape.ofLane k) = 1
        · simp only [hk, if_true]
          have h2 : ¬ ∀ a, (j a).val = (idxAt idxs h (Shape.ofLane k) a).val := fun h2 => hm ((hp k).2 ⟨hk, h2⟩)
          rw [if_neg h2]; exact hf
        · simp only [hk, if_false]; exact hf
      · simp [hm]

/-! ## Where each tile works -/

/-- The edge group of a tile. -/
def grp (i : grid1.Coords) : ℕ := (16 * (i 0).val + (i 1).val) % 4
/-- The first of the tile's thirty-two destination nodes. -/
def lo (i : grid1.Coords) : ℕ := 32 * ((16 * (i 0).val + (i 1).val) / 4)

/-- There are four groups of edges. -/
theorem grp_lt (i : grid1.Coords) : grp i < 4 := Nat.mod_lt _ (by decide)
/-- A tile's first row leaves room for its thirty-two. -/
theorem lo_le (i : grid1.Coords) : lo i ≤ 224 := by
  have h0 : (i 0).val < 2 := (i 0).isLt
  have h1 : (i 1).val < 16 := (i 1).isLt
  unfold lo; omega

/-- Where the copy of the sources starts. -/
theorem off1_eq : ∀ i : grid1.Coords, k1_off1 i = ![0, 3968 * grp i] := by unfold grp; decide +kernel
/-- Where the copy of the destinations starts. -/
theorem off2_eq : ∀ i : grid1.Coords, k1_off2 i = ![1, 3968 * grp i] := by unfold grp; decide +kernel
/-- Where a tile's rows of the counts start. -/
theorem off24_eq : ∀ i : grid1.Coords, k1_off24 i = ![256 * grp i + lo i, 0] := by unfold grp lo; decide +kernel
/-- Where the first of the five vectors of a trip starts. -/
theorem off19_eq : ∀ (i : grid1.Coords) (k : Fin k1_t2_loop.trips), k1_off19 i k = ![32 * grp i + (80 * k.val + 0)] := by unfold grp; decide +kernel
/-- Where the second starts. -/
theorem off20_eq : ∀ (i : grid1.Coords) (k : Fin k1_t2_loop.trips), k1_off20 i k = ![32 * grp i + (80 * k.val + 16)] := by unfold grp; decide +kernel
/-- Where the third starts. -/
theorem off21_eq : ∀ (i : grid1.Coords) (k : Fin k1_t2_loop.trips), k1_off21 i k = ![32 * grp i + (80 * k.val + 32)] := by unfold grp; decide +kernel
/-- Where the fourth starts. -/
theorem off22_eq : ∀ (i : grid1.Coords) (k : Fin k1_t2_loop.trips), k1_off22 i k = ![32 * grp i + (80 * k.val + 48)] := by unfold grp; decide +kernel
/-- Where the fifth starts. -/
theorem off23_eq : ∀ (i : grid1.Coords) (k : Fin k1_t2_loop.trips), k1_off23 i k = ![32 * grp i + (80 * k.val + 64)] := by unfold grp; decide +kernel

end Cert.Proof.K

end
-- ==== Proof.Setup.lean ====
/- The launch as the library sees it: its configuration, its resource algebra, the arrays the SparseCore call moves. -/
module

public import proofs.«01_k».proof.Proof.Counts
public import proofs.«01_k».proof.Proof.Gen.KernelIdeal.Launch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

abbrev ΛP (F : FTy → Type) [FloatOps F] [Named F] : Labels := Pipeline.Sig Λ₀ (Fin 2) fun p => (pcfgs (F := F) p).Adm
abbrev K (F : FTy → Type) [FloatOps F] [Named F] : SparseCore.Cfg τ sig (ΛP F) 1 := sc (F := F)
/-- The call runs on sixteen subcores of each SparseCore. -/
theorem nSub_zero : (K F).nSub 0 = 16 := rfl
/-- The call runs on two SparseCores. -/
theorem nCore_zero : (K F).nCore 0 = 2 := rfl
abbrev D (F : FTy → Type) [FloatOps F] [Named F] : Defs nD τ sig (Elt F) (ΛP F) := Pipeline.defs pcfgs defs₀
abbrev 𝒱₀ : Variants := Variants.none
abbrev 𝒱 : Variants := 𝒱₀.lift
abbrev v₀ : 𝒱.V := Sum.inl none

/-- The side conditions of the SparseCore call's set-up. -/
theorem scFacts : (K F).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the staging transfers' rounds, the transfers' counters. -/
abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL

/-- The staging transfers' rounds: the left half of the right factor. -/
def EP : Emb (UR sig nD τ) (MT nD τ sig (HIx 1) (Elt F) ℕ UU ℕ) :=
  (Emb.inl : Emb (UR sig nD τ) (UR sig nD τ × Counters)).trans embR
instance EP_landsIn : (EP : Emb (UR sig nD τ) 𝕄).LandsIn (upEmb : UEmb _ 𝕄) := by unfold EP; infer_instance

/-- The edge list and the counts' array, as the host names them. -/
abbrev eLoc (d : Dev nD) : Loc nD τ sig := (SparseCore.T d).loc main_arg1
abbrev cLoc (d : Dev nD) : Loc nD τ sig := (SparseCore.T d).loc main_v23

end Cert.Proof.K

end
-- ==== Proof.Tile.lean ====
/- One tile of the SparseCore call: it fetches its window of edges, clears its slab, adds one per edge of its group, and writes the slab out. -/
module

public import proofs.«01_k».proof.Proof.Setup
public import Idealize.ShloMosaic.Lib.Writes

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "eV" => (Memref.whole Cert.KernelIdeal.main_arg1_scv : Memref Cert.KernelIdeal.sig Kind.scVector Space.hbm Cert.KernelIdeal.S2x16000 EltTy.i32)
local notation "cV'" => (Memref.whole Cert.KernelIdeal.main_v23_scv : Memref Cert.KernelIdeal.sig Kind.scVector Space.hbm Cert.KernelIdeal.S1024x256 EltTy.f32)
local notation "sV" => (Memref.whole Cert.KernelIdeal.cc1_scratch0 : Memref Cert.KernelIdeal.sig Kind.scVector Space.vmem Cert.KernelIdeal.S4096 EltTy.i32)
local notation "tV" => (Memref.whole Cert.KernelIdeal.cc1_scratch1 : Memref Cert.KernelIdeal.sig Kind.scVector Space.vmem Cert.KernelIdeal.S4096 EltTy.i32)
local notation "aV" => (Memref.whole Cert.KernelIdeal.cc1_scratch2 : Memref Cert.KernelIdeal.sig Kind.scVector Space.vmem Cert.KernelIdeal.S32x256 EltTy.f32)

section Tile

variable (d : Dev nD) (i : grid1.Coords)

abbrev cV (i : grid1.Coords) : Fin τ.nSC := (i 0).castLE hcore1
abbrev jV (i : grid1.Coords) : Fin τ.nSub := (i 1).castLE hsub1
/-- The thread of tile `i` of device `d`. -/
abbrev thr : Thread nD τ := V d (cV i) (jV i)

/-- Pieces that all write one value leave that value wherever they cover, and wherever it was before. -/
theorem writes_const (f : (aV).view.ty.Contents (Elt F)) (z : F .f32) (L : List (View.Piece (Elt F) S32x256 .f32))
    (hL : ∀ p ∈ L, ∀ x, p.2 x = z) (j : S32x256.Idx) (h : f j = z ∨ ∃ p ∈ L, j ∈ p.1.set) :
    (aV).view.writes (Elt F) f L j = z := by
  by_cases hc : ∃ p ∈ L, j ∈ p.1.set
  · exact View.read_writes_apply_of_pieces (aV).view f (fun _ => z) L hL j hc
  · have := View.read_writes_apply_of_forall_not_mem (aV).view f j L (fun p hp hj => hc ⟨p, hp, hj⟩)
    exact (show _ = f j from this).trans (h.resolve_right hc)

omit [FloatOps F] [Named F] in
/-- A place of row `k` lies in the piece of sixteen columns that starts at `n`, when its column does. -/
theorem mem_piece (off : Fin 2 → ℕ) (inb) (k n : ℕ) (ho : off = ![k, n]) (j : S32x256.Idx)
    (h0 : (j 0).val = k) (h1 : n ≤ (j 1).val) (h2 : (j 1).val < n + 16) :
    j ∈ (Rect.unit (s := S32x256) off S1x16.size inb).set := by
  subst ho
  refine (Rect.unit (s := S32x256) ![k, n] S1x16.size inb).mem_set.mpr ?_
  intro a
  match a with
  | 0 => exact ⟨0, Nat.one_pos, by simpa using h0⟩
  | 1 => exact ⟨(j 1).val - n, by show _ < 16; omega, by show (j 1).val = n + 1 * _; omega⟩

set_option maxHeartbeats 4000000 in
/-- One trip of the clearing loop. -/
theorem zero_trip (k : Fin k1_t1_loop.trips) (f : Buf (Elt F) ((aV).view.loc (thr d i)))
    (hf : ∀ j : S32x256.Idx, (j 0).val < k.val → f j = addN F 0) :
    ((aV).view.loc (thr d i) ↦{fullShare} f : sProp 𝕄)
      ⊢ wp frame (wpE (defs₀ (F := F)) 𝒱₀ (thr d i) none) Set.univ
          (k1_t1_body (F := F) i eV (Memref.isWhole_whole _) cV' (Memref.isWhole_whole _) sV (Memref.isWhole_whole _) tV (Memref.isWhole_whole _) aV (Memref.isWhole_whole _) cc1_scoped0 cc1_scoped1 cc1_scoped2 k ())
          fun _ => iprop(∃ f' : Buf (Elt F) ((aV).view.loc (thr d i)),
            ⌜∀ j : S32x256.Idx, (j 0).val < k.val + 1 → f' j = addN F 0⌝ ∗ ((aV).view.loc (thr d i) ↦{fullShare} f')) := by
  iintro Ha
  unfold k1_t1_body
  rw [k1_part1_eq_skeleton]; unfold k1_part1_skel
  sl_exec!
  sl_step
  iexists _
  isplitr
  swap; · iexact Ha
  ipureintro
  intro j hj
  refine writes_const _ _ _ (by
    simp only [List.mem_cons, List.not_mem_nil, or_false, forall_eq_or_imp, forall_eq]
    refine ⟨?_, ?_, ?_, ?_, ?_, ?_, ?_, ?_, ?_, ?_, ?_, ?_, ?_, ?_, ?_, ?_⟩ <;> exact fun _ => rfl) j ?_
  by_cases h : (j 0).val < k.val
  · exact .inl (hf j h)
  refine .inr ?_
  have h0 : (j 0).val = k.val := by omega
  have h1 : (j 1).val < 256 := (j 1).isLt
  have hu : (j 1).val / 16 < 16 := by omega
  simp only [List.mem_cons, List.not_mem_nil, or_false, exists_eq_or_imp, exists_eq_left]
  generalize hq : (j 1).val / 16 = u at hu
  interval_cases u
  · iterate 15 right
    exact mem_piece _ _ _ _ (k1_off3_eq k) j h0 (by omega) (by omega)
  · iterate 14 right
    left; exact mem_piece _ _ _ _ (k1_off4_eq k) j h0 (by omega) (by omega)
  · iterate 13 right
    left; exact mem_piece _ _ _ _ (k1_off5_eq k) j h0 (by omega) (by omega)
  · iterate 12 right
    left; exact mem_piece _ _ _ _ (k1_off6_eq k) j h0 (by omega) (by omega)
  · iterate 11 right
    left; exact mem_piece _ _ _ _ (k1_off7_eq k) j h0 (by omega) (by omega)
  · iterate 10 right
    left; exact mem_piece _ _ _ _ (k1_off8_eq k) j h0 (by omega) (by omega)
  · iterate 9 right
    left; exact mem_piece _ _ _ _ (k1_off9_eq k) j h0 (by omega) (by omega)
  · iterate 8 right
    left; exact mem_piece _ _ _ _ (k1_off10_eq k) j h0 (by omega) (by omega)
  · iterate 7 right
    left; exact mem_piece _ _ _ _ (k1_off11_eq k) j h0 (by omega) (by omega)
  · iterate 6 right
    left; exact mem_piece _ _ _ _ (k1_off12_eq k) j h0 (by omega) (by omega)
  · iterate 5 right
    left; exact mem_piece _ _ _ _ (k1_off13_eq k) j h0 (by omega) (by omega)
  · iterate 4 right
    left; exact mem_piece _ _ _ _ (k1_off14_eq k) j h0 (by omega) (by omega)
  · iterate 3 right
    left; exact mem_piece _ _ _ _ (k1_off15_eq k) j h0 (by omega) (by omega)
  · iterate 2 right
    left; exact mem_piece _ _ _ _ (k1_off16_eq k) j h0 (by omega) (by omega)
  · iterate 1 right
    left; exact mem_piece _ _ _ _ (k1_off17_eq k) j h0 (by omega) (by omega)
  · left; exact mem_piece _ _ _ _ (k1_off18_eq k) j h0 (by omega) (by omega)

omit [FloatOps F] [Named F] in
/-- Holding the stretch of sources through its view is holding the buffer. -/
theorem pts_s (f : Buf (Elt F) ((thr d i).loc cc1_scratch0)) :
    ((sV).view.loc (thr d i) ↦{fullShare} f : sProp 𝕄) = (thr d i).loc cc1_scratch0 ↦{fullShare} f := rfl
omit [FloatOps F] [Named F] in
/-- Holding the stretch of destinations through its view is holding the buffer. -/
theorem pts_t (f : Buf (Elt F) ((thr d i).loc cc1_scratch1)) :
    ((tV).view.loc (thr d i) ↦{fullShare} f : sProp 𝕄) = (thr d i).loc cc1_scratch1 ↦{fullShare} f := rfl
omit [FloatOps F] [Named F] in
/-- Holding the slab through its view is holding the buffer. -/
theorem pts_a (f : Buf (Elt F) ((thr d i).loc cc1_scratch2)) :
    ((aV).view.loc (thr d i) ↦{fullShare} f : sProp 𝕄) = (thr d i).loc cc1_scratch2 ↦{fullShare} f := rfl
omit [FloatOps F] [Named F] in
/-- The slab accessed whole is the buffer. -/
theorem pts_a_whole (f : Buf (Elt F) ((thr d i).loc cc1_scratch2)) :
    (((aV).access (.whole S32x256)).loc (thr d i) ↦[((aV).access (.whole S32x256)).set]{fullShare} f : sProp 𝕄)
      = (thr d i).loc cc1_scratch2 ↦{fullShare} f := by
  rw [show ((aV).access (.whole S32x256)).set = Finset.univ from Memref.set_access_whole (cc1_scratch2 : Ref sig .scVector)]

/-- The sixteen words of a fetched window that a load at `off` reads. -/
abbrev lanesS (f : Buf (Elt F) ((thr d i).loc cc1_scratch0)) (off : Fin 1 → ℕ) (inb : ∀ a, off a + S16.size a ≤ S4096.size a) : Vec F S16 .i32 :=
  (sV).view.readAt (Elt F) (Rect.unit (s := S4096) off S16.size inb).toLoadRect f
abbrev lanesT (f : Buf (Elt F) ((thr d i).loc cc1_scratch1)) (off : Fin 1 → ℕ) (inb : ∀ a, off a + S16.size a ≤ S4096.size a) : Vec F S16 .i32 :=
  (tV).view.readAt (Elt F) (Rect.unit (s := S4096) off S16.size inb).toLoadRect f

/-- A fetched window holds row `a` of the edge list from word `3968 * grp i` on. -/
def Window (E : S2x16000.Idx → BitVec 32) (a : Fin 2) (f : S4096.Idx → BitVec 32) : Prop :=
  ∀ x, (f x).toNat = wd E a (3968 * grp i + (x 0).val)

/-- The slab counts the first `n` edges of the tile's group, for the tile's thirty-two destinations. -/
def Slab (E : S2x16000.Idx → BitVec 32) (n : ℕ) (f : S32x256.Idx → F .f32) : Prop :=
  ∀ j, f j = addN F (cnt E (grp i) (lo i + (j 0).val) (j 1).val n)

/-- Every word of the edge list names a node. -/
def InRange (E : S2x16000.Idx → BitVec 32) : Prop := ∀ x, (E x).toNat < 250

/-- A word of an edge list in range is a node. -/
theorem wd_lt {E : S2x16000.Idx → BitVec 32} (h : InRange E) (a : Fin 2) (e : ℕ) : wd E a e < 250 := by
  unfold wd; split
  · exact h _
  · omega

omit [FloatOps F] [Named F] in
/-- What a vector of sixteen sources holds. -/
theorem lanesS_toNat {E : S2x16000.Idx → BitVec 32} {f : Buf (Elt F) ((thr d i).loc cc1_scratch0)} (hf : Window i E 0 f) (off : Fin 1 → ℕ) (inb) (n : ℕ)
    (ho : off = ![32 * grp i + n]) (k : Fin 16) : (lanesS d i f off inb (Shape.ofLane (d := ![16]) k)).toNat = wd E 0 (4000 * grp i + (n + k.val)) := by
  subst ho
  refine (hf _).trans ?_
  congr 1
  show 3968 * grp i + (32 * grp i + n + 1 * k.val) = _
  omega
omit [FloatOps F] [Named F] in
/-- What a vector of sixteen destinations holds. -/
theorem lanesT_toNat {E : S2x16000.Idx → BitVec 32} {f : Buf (Elt F) ((thr d i).loc cc1_scratch1)} (hf : Window i E 1 f) (off : Fin 1 → ℕ) (inb) (n : ℕ)
    (ho : off = ![32 * grp i + n]) (k : Fin 16) : (lanesT d i f off inb (Shape.ofLane (d := ![16]) k)).toNat = wd E 1 (4000 * grp i + (n + k.val)) := by
  subst ho
  refine (hf _).trans ?_
  congr 1
  show 3968 * grp i + (32 * grp i + n + 1 * k.val) = _
  omega

/-- The mask of a lane: whether its destination is one of the thirty-two. -/
theorem mask_iff (v w : BitVec 32) (hv : v.toNat ≤ 224) (hw : w.toNat < 250) :
    IntOp.andi (IntOp.cmpi .sge w v) (IntOp.cmpi .slt w (Scalar.addi v 32#32)) = 1 ↔ v.toNat ≤ w.toNat ∧ w.toNat < v.toNat + 32 := by
  have e : (Scalar.addi v 32#32 : BitVec 32).toNat = v.toNat + 32 := by
    show (v + 32#32).toNat = _
    rw [BitVec.toNat_add]; simp; omega
  generalize (Scalar.addi v 32#32 : BitVec 32) = u at e
  have hs : ∀ x : BitVec 32, x.toNat < 300 → x.toInt = (x.toNat : ℤ) := fun x hx => BitVec.toInt_eq_toNat_of_lt (by omega)
  have h1 : v.sle w = decide (v.toNat ≤ w.toNat) := by
    rw [BitVec.sle_eq_decide, hs v (by omega), hs w (by omega)]
    exact decide_eq_decide.2 Int.ofNat_le
  have h2 : w.slt u = decide (w.toNat < v.toNat + 32) := by
    rw [BitVec.slt_eq_decide, hs w (by omega), hs u (by omega), e]
    exact decide_eq_decide.2 Int.ofNat_lt
  show (BitVec.ofBool (v.sle w) &&& BitVec.ofBool (w.slt u)) = 1 ↔ _
  rw [h1, h2]
  by_cases a : v.toNat ≤ w.toNat <;> by_cases b : w.toNat < v.toNat + 32 <;> simp [a, b]

/-- A lane's mask is set where its destination is one of the tile's rows. -/
theorem pay4_iff (v29 : BitVec 32) (x : Vec F S16 .i32) (l) (hv : v29.toNat ≤ 224) (hx : (x l).toNat < 250) :
    k1_pay4 (F := F) v29 x l = 1 ↔ v29.toNat ≤ (x l).toNat ∧ (x l).toNat < v29.toNat + 32 := mask_iff v29 (x l) hv hx

/-- A lane's row in the slab: its destination less the tile's first row, zero where the mask is not set. -/
theorem pay5_of (v29 : BitVec 32) (x : Vec F S16 .i32) (l) (hv : v29.toNat ≤ 224) (hx : (x l).toNat < 250) :
    (k1_pay5 (F := F) v29 x l).toNat = if v29.toNat ≤ (x l).toNat ∧ (x l).toNat < v29.toNat + 32 then (x l).toNat - v29.toNat else 0 := by
  have h : k1_pay5 (F := F) v29 x l = if k1_pay4 (F := F) v29 x l = 1 then x l - v29 else 0#32 := rfl
  rw [h]
  by_cases c : k1_pay4 (F := F) v29 x l = 1
  · have c' := (pay4_iff v29 x l hv hx).1 c
    rw [if_pos c, if_pos c', BitVec.toNat_sub_of_le c'.1]
  · have c' := fun t => c ((pay4_iff v29 x l hv hx).2 t)
    rw [if_neg c, if_neg c']; rfl

/-- Every index of a vector of sixteen is a lane. -/
theorem exists_lane (x : S16.Idx) : ∃ k : Fin 16, x = Shape.ofLane (d := ![16]) k :=
  ⟨x 0, by funext a; obtain rfl : a = 0 := Subsingleton.elim _ _; rfl⟩

section Step

variable {E : S2x16000.Idx → BitVec 32} (hE : InRange E) {v29 : BitVec 32} (hv : v29.toNat = lo i)
  {fs : Buf (Elt F) ((thr d i).loc cc1_scratch0)} {ft : Buf (Elt F) ((thr d i).loc cc1_scratch1)}
  (hs : Window i E 0 fs) (ht : Window i E 1 ft) (off : Fin 1 → ℕ) (inb) (n : ℕ) (ho : off = ![32 * grp i + n])

include hE hv hs ht ho in
/-- The indices of one scatter are in range. -/
theorem chk_step : ∀ a x, ((![k1_pay5 (F := F) v29 (lanesT d i ft off inb), lanesS d i fs off inb] : Fin 2 → IVec S16 32) a x).toNat < S32x256.size a := by
  intro a x
  obtain ⟨k, rfl⟩ := exists_lane x
  have h1 := lanesS_toNat d i hs off inb n ho k
  have h2 := lanesT_toNat d i ht off inb n ho k
  have h3 := wd_lt hE 0 (4000 * grp i + (n + k.val))
  have h4 := wd_lt hE 1 (4000 * grp i + (n + k.val))
  have hl := lo_le i
  match a with
  | 0 =>
    show (k1_pay5 (F := F) v29 (lanesT d i ft off inb) _).toNat < 32
    rw [pay5_of _ _ _ (by omega) (by omega)]; split <;> omega
  | 1 => show (lanesS d i fs off inb _).toNat < 256; omega

include hE hv hs ht ho in
/-- One scatter of ones carries the count sixteen edges on. -/
theorem slab_step {f : Buf (Elt F) ((thr d i).loc cc1_scratch2)} (hf : Slab i E n f) (h) :
    Slab i E (n + 16) (((aV).access (.whole S32x256)).write (Elt F) f
      (storeIdx (((aV).access (.whole S32x256)).read (Elt F) f) ![k1_pay5 (F := F) v29 (lanesT d i ft off inb), lanesS d i fs off inb] (k1_pay2 (F := F)) (k1_pay4 (F := F) v29 (lanesT d i ft off inb)) true h) Finset.univ) := by
  intro j
  have hw : ∀ g : S32x256.Idx → F .f32, ((aV).access (.whole S32x256)).write (Elt F) f g Finset.univ = g := fun g => by
    exact Memref.write_access_whole_univ (Elt F) (cc1_scratch2 : Ref sig .scVector) f g
  have hr : ((aV).access (.whole S32x256)).read (Elt F) f = f := Memref.read_access_whole (Elt F) (cc1_scratch2 : Ref sig .scVector) f
  rw [hw, hr, cnt_add]
  have hl := lo_le i
  refine (storeIdx_ones (F := F) (s := S32x256) (d := ![16]) f _ _ h _ (fun _ => rfl) j _ (hf j)
    (fun k => decide (Hit E (lo i + (j 0).val) (j 1).val (4000 * grp i + (n + k)))) ?_).trans ?_
  · intro k
    have h1 := lanesS_toNat d i hs off inb n ho k
    have h2 := lanesT_toNat d i ht off inb n ho k
    have h4 := wd_lt hE 1 (4000 * grp i + (n + k.val))
    have hj : (j 0).val < 32 := (j 0).isLt
    rw [decide_eq_true_iff, pay4_iff _ _ _ (by omega) (by omega)]
    have h5 := pay5_of (F := F) v29 (lanesT d i ft off inb) (Shape.ofLane (d := ![16]) k) (by omega) (by omega)
    rw [Fin.forall_fin_two]
    show _ ↔ _ ∧ (j 0).val = (k1_pay5 (F := F) v29 (lanesT d i ft off inb) (Shape.ofLane (d := ![16]) k)).toNat ∧ (j 1).val = (lanesS d i fs off inb (Shape.ofLane (d := ![16]) k)).toNat
    rw [h5, h1, h2]
    unfold Hit
    constructor
    · rintro ⟨a, b⟩
      refine ⟨by omega, ?_, b.symm⟩
      rw [if_pos (by omega)]; omega
    · rintro ⟨a, b, c⟩
      rw [if_pos (by omega)] at b
      exact ⟨by omega, c.symm⟩
  · congr 3
    funext k; simp

end Step

set_option maxHeartbeats 400000 in
/-- One trip of the counting loop: eighty more edges counted. -/
theorem count_trip {E : S2x16000.Idx → BitVec 32} (hE : InRange E) {v29 : BitVec 32} (hv : v29.toNat = lo i) (v30 : BitVec 32)
    {fs : Buf (Elt F) ((thr d i).loc cc1_scratch0)} {ft : Buf (Elt F) ((thr d i).loc cc1_scratch1)}
    (hs : Window i E 0 fs) (ht : Window i E 1 ft) (k : Fin k1_t2_loop.trips) (f : Buf (Elt F) ((thr d i).loc cc1_scratch2))
    (hf : Slab i E (80 * k.val) f) :
    (iprop(((sV).view.loc (thr d i) ↦{fullShare} fs) ∗ ((tV).view.loc (thr d i) ↦{fullShare} ft) ∗ ((thr d i).loc cc1_scratch2 ↦{fullShare} f)) : sProp 𝕄)
      ⊢ wp frame (wpE (defs₀ (F := F)) 𝒱₀ (thr d i) none) Set.univ
          (k1_t2_body (F := F) i eV (Memref.isWhole_whole _) cV' (Memref.isWhole_whole _) sV (Memref.isWhole_whole _) tV (Memref.isWhole_whole _) aV (Memref.isWhole_whole _) cc1_scoped0 cc1_scoped1 cc1_scoped2 v29 v30 k ())
          fun _ => iprop(((sV).view.loc (thr d i) ↦{fullShare} fs) ∗ ((tV).view.loc (thr d i) ↦{fullShare} ft) ∗
            ∃ f' : Buf (Elt F) ((thr d i).loc cc1_scratch2), ⌜Slab i E (80 * (k.val + 1)) f'⌝ ∗ ((thr d i).loc cc1_scratch2 ↦{fullShare} f')) := by
  iintro ⟨Hs, Ht, Ha⟩
  unfold k1_t2_body
  have hc0 : k1_chk1 (lanesS d i fs (k1_off19 i k) (k1_off19_inb i k)) (k1_pay5 (F := F) v29 (lanesT d i ft (k1_off19 i k) (k1_off19_inb i k))) := chk_step (F := F) d i hE hv hs ht (k1_off19 i k) (k1_off19_inb i k) (80 * k.val + 0) (off19_eq i k)
  have hc1 : k1_chk2 (lanesS d i fs (k1_off20 i k) (k1_off20_inb i k)) (k1_pay7 (F := F) v29 (lanesT d i ft (k1_off20 i k) (k1_off20_inb i k))) := chk_step (F := F) d i hE hv hs ht (k1_off20 i k) (k1_off20_inb i k) (80 * k.val + 16) (off20_eq i k)
  have hc2 : k1_chk3 (lanesS d i fs (k1_off21 i k) (k1_off21_inb i k)) (k1_pay9 (F := F) v29 (lanesT d i ft (k1_off21 i k) (k1_off21_inb i k))) := chk_step (F := F) d i hE hv hs ht (k1_off21 i k) (k1_off21_inb i k) (80 * k.val + 32) (off21_eq i k)
  have hc3 : k1_chk4 (lanesS d i fs (k1_off22 i k) (k1_off22_inb i k)) (k1_pay11 (F := F) v29 (lanesT d i ft (k1_off22 i k) (k1_off22_inb i k))) := chk_step (F := F) d i hE hv hs ht (k1_off22 i k) (k1_off22_inb i k) (80 * k.val + 48) (off22_eq i k)
  have hc4 : k1_chk5 (lanesS d i fs (k1_off23 i k) (k1_off23_inb i k)) (k1_pay3 (F := F) (lanesT d i ft (k1_off23 i k) (k1_off23_inb i k)) (k1_pay12 (F := F) v29 (lanesT d i ft (k1_off23 i k) (k1_off23_inb i k))) (k1_pay13 v29)) := chk_step (F := F) d i hE hv hs ht (k1_off23 i k) (k1_off23_inb i k) (80 * k.val + 64) (off23_eq i k)
  rw [k1_part2_eq_skeleton, k1_part3_eq_skeleton]; unfold k1_part2_skel k1_part3_skel
  sl_exec
  ihave Ha' := (Entails.of_eq (pts_a_whole (F := F) d i _).symm) $$ Ha
  rw [bind_assoc]
  iapply (SparseCore.wp_vectorStoreIdx 𝒱₀ (thr d i) none Set.univ (base := aV)) $$ Ha'; iintro Ha'
  ihave Ha := (Entails.of_eq (pts_a_whole (F := F) d i _)) $$ Ha'
  have hf := slab_step (F := F) d i hE hv hs ht (k1_off19 i k) (k1_off19_inb i k) (80 * k.val + 0) (off19_eq i k) hf hc0
  sl_exec
  ihave Ha' := (Entails.of_eq (pts_a_whole (F := F) d i _).symm) $$ Ha
  rw [bind_assoc]
  iapply (SparseCore.wp_vectorStoreIdx 𝒱₀ (thr d i) none Set.univ (base := aV)) $$ Ha'; iintro Ha'
  ihave Ha := (Entails.of_eq (pts_a_whole (F := F) d i _)) $$ Ha'
  have hf := slab_step (F := F) d i hE hv hs ht (k1_off20 i k) (k1_off20_inb i k) (80 * k.val + 16) (off20_eq i k) hf hc1
  sl_exec
  ihave Ha' := (Entails.of_eq (pts_a_whole (F := F) d i _).symm) $$ Ha
  rw [bind_assoc]
  iapply (SparseCore.wp_vectorStoreIdx 𝒱₀ (thr d i) none Set.univ (base := aV)) $$ Ha'; iintro Ha'
  ihave Ha := (Entails.of_eq (pts_a_whole (F := F) d i _)) $$ Ha'
  have hf := slab_step (F := F) d i hE hv hs ht (k1_off21 i k) (k1_off21_inb i k) (80 * k.val + 32) (off21_eq i k) hf hc2
  sl_exec
  ihave Ha' := (Entails.of_eq (pts_a_whole (F := F) d i _).symm) $$ Ha
  rw [bind_assoc]
  iapply (SparseCore.wp_vectorStoreIdx 𝒱₀ (thr d i) none Set.univ (base := aV)) $$ Ha'; iintro Ha'
  ihave Ha := (Entails.of_eq (pts_a_whole (F := F) d i _)) $$ Ha'
  have hf := slab_step (F := F) d i hE hv hs ht (k1_off22 i k) (k1_off22_inb i k) (80 * k.val + 48) (off22_eq i k) hf hc3
  sl_exec
  ihave Ha' := (Entails.of_eq (pts_a_whole (F := F) d i _).symm) $$ Ha
  iapply (SparseCore.wp_vectorStoreIdx 𝒱₀ (thr d i) none Set.univ (base := aV)) $$ Ha'; iintro Ha'
  ihave Ha := (Entails.of_eq (pts_a_whole (F := F) d i _)) $$ Ha'
  have hf := slab_step (F := F) d i hE hv hs ht (k1_off23 i k) (k1_off23_inb i k) (80 * k.val + 64) (off23_eq i k) hf hc4
  sl_exec!
  sl_step
  isplitl [Hs]; · iexact Hs
  isplitl [Ht]; · iexact Ht
  iexists _; isplitr
  · ipureintro; exact hf
  iexact Ha

end Tile

end Cert.Proof.K

end
-- ==== Proof.Body.lean ====
/- One tile of the SparseCore call from end to end: the two fetches, the clearing loop, the counting loop, the write-out. -/
module

public import proofs.«01_k».proof.Proof.Tile

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "eV" => (Memref.whole Cert.KernelIdeal.main_arg1_scv : Memref Cert.KernelIdeal.sig Kind.scVector Space.hbm Cert.KernelIdeal.S2x16000 EltTy.i32)
local notation "cV'" => (Memref.whole Cert.KernelIdeal.main_v23_scv : Memref Cert.KernelIdeal.sig Kind.scVector Space.hbm Cert.KernelIdeal.S1024x256 EltTy.f32)
local notation "sV" => (Memref.whole Cert.KernelIdeal.cc1_scratch0 : Memref Cert.KernelIdeal.sig Kind.scVector Space.vmem Cert.KernelIdeal.S4096 EltTy.i32)
local notation "tV" => (Memref.whole Cert.KernelIdeal.cc1_scratch1 : Memref Cert.KernelIdeal.sig Kind.scVector Space.vmem Cert.KernelIdeal.S4096 EltTy.i32)
local notation "aV" => (Memref.whole Cert.KernelIdeal.cc1_scratch2 : Memref Cert.KernelIdeal.sig Kind.scVector Space.vmem Cert.KernelIdeal.S32x256 EltTy.f32)

/-! ## What a tile is handed and hands back -/

variable (m : (ℓ : Loc nD τ sig) → Buf (Elt F) ℓ)

/-- The edge list's words at the launch. -/
abbrev edges (d : Dev nD) : S2x16000.Idx → BitVec 32 := m (eLoc d)

/-- Four groups of counts, one after another: row `256 g + r`, column `c` is the number of edges of group `g` from `c` to `r`. -/
def counts (E : S2x16000.Idx → BitVec 32) : S1024x256.Idx → F .f32 :=
  fun y => addN F (cnt E ((y 0).val / 256) ((y 0).val % 256) (y 1).val 4000)

/-- Share `k` of a buffer that many tiles read: the left half of what is left after `k` of them. -/
def share (k : ℕ) : PosShare TreeShare := (PosShare.right^[k] fullShare).left
/-- What is left after `k` shares. -/
def left (k : ℕ) : PosShare TreeShare := PosShare.right^[k] fullShare

/-- A tile's share of the edge list -/
def eq (i : grid1.Coords) : PosShare TreeShare :=
  share (16 * (i 0).val + (i 1).val)

/-- A tile's thirty-two rows of the counts, as it addresses them. -/
abbrev cRect (i : grid1.Coords) : Rect S1024x256 := Rect.unit (s := S1024x256) (k1_off24 i) S32x256.size (k1_off24_inb i)
abbrev cRow (i : grid1.Coords) : Memref sig .scVector .hbm S32x256 .f32 := (cV').slice (cRect i) (fun _ => rfl)
abbrev cSet (i : grid1.Coords) : Finset S1024x256.Idx := (cRect i).set

abbrev eShPts (d : Dev nD) (i : grid1.Coords) : sProp 𝕄 := eLoc d ↦{eq i} m (eLoc d)
abbrev cRowPts (d : Dev nD) (i : grid1.Coords) (f : Buf (Elt F) (cLoc d)) : sProp 𝕄 := cLoc d ↦[cSet i]{fullShare} f

section Tile

variable (d : Dev nD) (i : grid1.Coords)

omit [FloatOps F] [Named F] in
/-- The places of a tile's rows of the counts, as a slice of the array. -/
theorem set_cRow : (cRow i).view.set = cSet i := by
  show ((View.whole (main_v23_scv : Ref sig .scVector)).slice (cRect i)).set = _
  rw [View.set_slice]; exact Finset.map_refl
omit [FloatOps F] [Named F] in
/-- Holding a tile's rows through their view is holding those places of the array. -/
theorem pts_cRow (f : Buf (Elt F) (cLoc d)) :
    ((cRow i).view.loc (thr d i) ↦[(cRow i).view.set]{fullShare} f : sProp 𝕄) = cLoc d ↦[cSet i]{fullShare} f := by
  rw [set_cRow]
omit [FloatOps F] [Named F] in
/-- Holding the edge list through its view is holding the array. -/
theorem pts_e (q : PosShare TreeShare) (f : Buf (Elt F) (eLoc d)) :
    ((eV).view.loc (thr d i) ↦{q} f : sProp 𝕄) = eLoc d ↦{q} f := rfl

abbrev cellA (d : Dev nD) (i : grid1.Coords) : GSem nD τ sig := (thr d i, .dma cc1_scoped0.sem)
abbrev cellB (d : Dev nD) (i : grid1.Coords) : GSem nD τ sig := (thr d i, .dma cc1_scoped1.sem)
abbrev cellC (d : Dev nD) (i : grid1.Coords) : GSem nD τ sig := (thr d i, .dma cc1_scoped2.sem)

omit [FloatOps F] [Named F] in
/-- A tile's semaphores at zero: the three of its copies, and the others. -/
theorem cells_thr :
    (ownSems0 (thr d i) : sProp 𝕄)
      = iprop(semVal (cellA d i) 0 ∗ semVal (cellB d i) 0 ∗ semVal (cellC d i) 0
          ∗ bigSep ((((ownCells (thr d i)).erase (cellA d i)).erase (cellB d i)).erase (cellC d i)) fun g => semVal g 0) := by
  unfold SparseCore.Cfg.ownSems0
  rw [SparseCore.bigSep_erase' ((mem_ownCells (g := cellA d i)).mpr ⟨rfl, by
      show (SemLoc.dma cc1_scoped0.sem : SemLoc sig).isScoped .scVector = true; decide⟩),
    SparseCore.bigSep_erase' (Finset.mem_erase.mpr ⟨by simp [cellA, cellB]; decide, (mem_ownCells (g := cellB d i)).mpr ⟨rfl, by
      show (SemLoc.dma cc1_scoped1.sem : SemLoc sig).isScoped .scVector = true; decide⟩⟩),
    SparseCore.bigSep_erase' (Finset.mem_erase.mpr ⟨by simp [cellB, cellC]; decide, Finset.mem_erase.mpr ⟨by simp [cellA, cellC]; decide,
      (mem_ownCells (g := cellC d i)).mpr ⟨rfl, by show (SemLoc.dma cc1_scoped2.sem : SemLoc sig).isScoped .scVector = true; decide⟩⟩⟩)]

omit [FloatOps F] [Named F] in
/-- A tile's own buffers: the two stretches of edges, the slab, and the others. -/
theorem bufs_thr :
    (ownBufs (thr d i) : sProp 𝕄)
      = iprop((∃ f, (thr d i).loc cc1_scratch0 ↦{fullShare} f) ∗ (∃ f, (thr d i).loc cc1_scratch1 ↦{fullShare} f)
          ∗ (∃ f, (thr d i).loc cc1_scratch2 ↦{fullShare} f)
          ∗ bigSep ((((ownRefs (τ := τ) (.scVector (cV i) (jV i))).erase ((Proc.scVector (cV i) (jV i)).devRef cc1_scratch0)).erase
              ((Proc.scVector (cV i) (jV i)).devRef cc1_scratch1)).erase ((Proc.scVector (cV i) (jV i)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV i) (jV i))
    (b := (Proc.scVector (cV i) (jV i)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV i) (jV i)) (b := (Proc.scVector (cV i) (jV i)).devRef cc1_scratch1) rfl⟩),
    SparseCore.bigSep_erase' (Finset.mem_erase.mpr ⟨fun e => absurd (Proc.devRef_injective _ e) (show (cc1_scratch2 : Ref sig .scVector) ≠ cc1_scratch1 by decide),
    Finset.mem_erase.mpr ⟨fun e => absurd (Proc.devRef_injective _ e) (show (cc1_scratch2 : Ref sig .scVector) ≠ cc1_scratch0 by decide),
    SparseCore.Cfg.mem_ownRefs_of_owner (p := Proc.scVector (cV i) (jV i)) (b := (Proc.scVector (cV i) (jV i)).devRef cc1_scratch2) rfl⟩⟩)]

/-- Where a squeezed one-row slice of the edge list reads. -/
theorem reshape_row (h : S4096.numel = S1x4096.numel) (x : S4096.Idx) :
    ((Shape.reshapeEquiv h x : S1x4096.Idx) 1).val = (x 0).val := by
  have e := Shape.rowMajor_reshapeEquiv h x
  rw [show (S4096.rowMajor x).val = (x 0).val from Shape.rowMajor_val_one x] at e
  have e2 : (S1x4096.rowMajor (Shape.reshapeEquiv h x)).val = _ := Shape.rowMajor_val_two _
  have h0 : ((Shape.reshapeEquiv h x : S1x4096.Idx) 0).val < 1 := ((Shape.reshapeEquiv h x : S1x4096.Idx) 0).isLt
  rw [e] at e2
  have e3 : (x 0).val = ((Shape.reshapeEquiv h x : S1x4096.Idx) 0).val * 4096 + ((Shape.reshapeEquiv h x : S1x4096.Idx) 1).val := e2
  omega

/-- What the fetch of row `a` lands is the tile's window of that row. -/
theorem window_of (a : Fin 2) (off : Fin 2 → ℕ) (inb : ∀ b, off b + S1x4096.size b ≤ S2x16000.size b) (ho : off = ![a.val, 3968 * grp i])
    (E : Buf (Elt F) (eLoc d)) (f : S4096.Idx → BitVec 32)
    (hf : f = (((eV).slice (Rect.unit (s := S2x16000) off S1x4096.size inb) (fun _ => rfl)).squeeze S4096 squeezes_S1x4096_S4096).view.read (Elt F) E) :
    Window i E a f := by
  subst hf ho
  intro x
  have hg := grp_lt i
  have hx : (x 0).val < 4096 := (x 0).isLt
  unfold wd
  rw [dif_pos (by omega)]
  refine congrArg BitVec.toNat ((View.read_apply _ _).trans ((cast_eq _ _).trans (congrArg E ?_)))
  have h0 : ((Shape.reshapeEquiv squeezes_S1x4096_S4096.numel_eq x : S1x4096.Idx) 0).val < 1 := ((Shape.reshapeEquiv squeezes_S1x4096_S4096.numel_eq x : S1x4096.Idx) 0).isLt
  have h1 := reshape_row squeezes_S1x4096_S4096.numel_eq x
  funext b
  apply Fin.ext
  match b with
  | 0 =>
    show a.val + 1 * ((Shape.reshapeEquiv squeezes_S1x4096_S4096.numel_eq x : S1x4096.Idx) 0).val = a.val
    omega
  | 1 =>
    show 3968 * grp i + 1 * ((Shape.reshapeEquiv squeezes_S1x4096_S4096.numel_eq x : S1x4096.Idx) 1).val = 3968 * grp i + (x 0).val
    omega

/-- The slab, counted to the end, is the tile's thirty-two rows of the counts. -/
theorem rows_of (E : S2x16000.Idx → BitVec 32) {f : S32x256.Idx → F .f32} (hf : Slab i E 4000 f) (f0 : Buf (Elt F) (cLoc d)) :
    ∀ y ∈ cSet i, (cRow i).view.writes (Elt F) f0 [⟨Rect.whole S32x256, f⟩] y = counts (F := F) E y := by
  intro y hy
  obtain ⟨x, rfl⟩ := (cRect i).exists_idx_of_mem hy
  have e : (cRow i).view.writes (Elt F) f0 [⟨Rect.whole S32x256, f⟩] ((cRow i).view.emb x) = f x := by
    refine Eq.trans ?_ (View.read_writes_cons_hit (cRow i).view f0 (Rect.whole S32x256) f [] x x ?_)
    · exact ((View.read_apply _ _).trans (cast_eq _ _)).symm
    · exact Rect.emb_eq_of_coords _ _ _ fun a => by show (x a).val = 0 + 1 * (x a).val; omega
  refine Eq.trans e ?_
  rw [hf x]
  have h0 : ((cRect i).emb x 0).val = 256 * grp i + lo i + (x 0).val := by
    show k1_off24 i 0 + 1 * (x 0).val = _
    rw [off24_eq]; simp
  have h1 : ((cRect i).emb x 1).val = (x 1).val := by
    show k1_off24 i 1 + 1 * (x 1).val = _
    rw [off24_eq]; simp
  have hl := lo_le i
  have hx : (x 0).val < 32 := (x 0).isLt
  unfold counts
  rw [show ((cRect i).idx x 0).val = _ from h0, show ((cRect i).idx x 1).val = _ from h1, show (256 * grp i + lo i + (x 0).val) / 256 = grp i by omega,
    show (256 * grp i + lo i + (x 0).val) % 256 = lo i + (x 0).val by omega]

/-- Before trip `k` of the clearing loop the first `k` rows of the slab are zero. -/
def invZ (k : ℕ) (_ : PUnit) : sProp 𝕄 :=
  iprop(∃ f : Buf (Elt F) ((aV).view.loc (thr d i)), ⌜∀ j : S32x256.Idx, (j 0).val < k → f j = addN F 0⌝ ∗ ((aV).view.loc (thr d i) ↦{fullShare} f))

/-- Before trip `k` of the counting loop the slab counts the first `80 k` edges of the group. -/
def invC (E : S2x16000.Idx → BitVec 32) (fs : Buf (Elt F) ((thr d i).loc cc1_scratch0)) (ft : Buf (Elt F) ((thr d i).loc cc1_scratch1)) (k : ℕ) (_ : PUnit) : sProp 𝕄 :=
  iprop(((sV).view.loc (thr d i) ↦{fullShare} fs) ∗ ((tV).view.loc (thr d i) ↦{fullShare} ft)
    ∗ ∃ f : Buf (Elt F) ((thr d i).loc cc1_scratch2), ⌜Slab i E (80 * k) f⌝ ∗ ((thr d i).loc cc1_scratch2 ↦{fullShare} f))

/-- The first destination of a tile, as the body computes it from the tile's place. -/
def tile_v29 (i : grid1.Coords) : BitVec 32 :=
  let arg0 : BitVec 32 := BitVec.ofNat 32 (i 0).val
  let arg1 : BitVec 32 := BitVec.ofNat 32 (i 1).val
  let v0 : BitVec 32 := Scalar.muli arg0 16#32
  let v1 : BitVec 32 := Scalar.addi v0 arg1
  let v12 : BitVec 32 := Scalar.divsi v1 4#32
  let v13 : BitVec 1 := Scalar.cmpi .sgt v1 0#32
  let v14 : BitVec 32 := Scalar.extui v13
  let v15 : BitVec 1 := Scalar.cmpi .slt v1 0#32
  let v16 : BitVec 32 := Scalar.extui v15
  let v17 : BitVec 32 := Scalar.subi v14 v16
  let v18 : BitVec 1 := Scalar.cmpi .sgt 4#32 0#32
  let v19 : BitVec 32 := Scalar.extui v18
  let v20 : BitVec 1 := Scalar.cmpi .slt 4#32 0#32
  let v21 : BitVec 32 := Scalar.extui v20
  let v22 : BitVec 32 := Scalar.subi v19 v21
  let v23 : BitVec 1 := Scalar.cmpi .ne v17 v22
  let v24 : BitVec 32 := Scalar.remsi v1 4#32
  let v25 : BitVec 1 := Scalar.cmpi .ne v24 0#32
  let v26 : BitVec 1 := Scalar.andi v23 v25
  let v27 : BitVec 32 := Scalar.subi v12 1#32
  let v28 : BitVec 32 := Scalar.select v26 v27 v12
  let v29 : BitVec 32 := Scalar.muli v28 32#32
  v29

/-- The tile's first destination, as the body computes it. -/
theorem v29_eq : ∀ i : grid1.Coords, (tile_v29 i).toNat = lo i := by unfold tile_v29 lo; decide +kernel

set_option maxHeartbeats 1000000 in
/-- A tile's run: its share of the edge list kept, its rows of the counts written. -/
theorem tile_body (hF : (K F).Facts) (hE : InRange (edges m d)) (O : CellTallies nD τ sig (HIx 1)) (W : Waits sig (HIx 1)) (hO : ∀ g, O g none = 0) :
    iprop(levAts (K F).L (K F).lev ∗ emp
        ∗ (eShPts m d i ∗ ∃ f, cRowPts d i f)
        ∗ scopedBufs (thr d i) ∗ scopedSems0 (thr d i) ∗ owes (thr d i) O W)
      ⊢ wp frame (wpE (defs₀ (F := F)) 𝒱₀ (thr d i) none) Set.univ
          (cc1__sc_edge_counts_body i eV (Memref.isWhole_whole _) cV' (Memref.isWhole_whole _) sV (Memref.isWhole_whole _) tV (Memref.isWhole_whole _) aV (Memref.isWhole_whole _) cc1_scoped0 cc1_scoped1 cc1_scoped2)
          fun _ => iprop((eShPts m d i ∗ cRowPts d i (counts (edges m d)))
            ∗ scopedBufs (thr d i) ∗ scopedSems0 (thr d i)
            ∗ ∃ W', ⌜∀ p ∈ W', p ∈ W ∨ p.2 = none⌝ ∗ owes (thr d i) O W') := by
  simp only [cc1__sc_edge_counts_body_eq_skeleton]; unfold cc1__sc_edge_counts_body_skel
  rw [k1_part4_eq_skeleton]; unfold k1_part4_skel
  rw [(K F).scopedBufs_V hF d (cV i) (jV i), SparseCore.Cfg.scopedSems0_V (Val := Elt F) d (cV i) (jV i), cells_thr, bufs_thr]
  iintro ⟨#Hlv, -, ⟨He, ⟨%fc, Hc⟩⟩, ⟨⟨%fs, Hs⟩, ⟨%ft, Ht⟩, ⟨%fa, Ha⟩, Hbufs⟩, ⟨HsemA, HsemB, HsemC, Hsems⟩, HO⟩
  ihave Hmw := (show levAts (K F).L (K F).lev ⊢ Transfers.MayWaits (thr d i) (default : HIx 1) O from
    (K F).mayWaits_none (thr := thr d i) hO) $$ Hlv
  ihave He' := (Entails.of_eq (pts_e (F := F) d i _ _).symm) $$ He
  ihave Hc' := (Entails.of_eq (pts_cRow (F := F) d i _).symm) $$ Hc
  ihave Hs' := (Entails.of_eq (pts_s (F := F) d i _).symm) $$ Hs
  ihave Ht' := (Entails.of_eq (pts_t (F := F) d i _).symm) $$ Ht
  ihave Ha' := (Entails.of_eq (pts_a (F := F) d i _).symm) $$ Ha
  sl_exec
  have hw0 : Window i (edges m d) 0 (View.write (Elt F) (Memref.whole cc1_scratch0).view fs (tile_body.sl.dma0 m d i) Finset.univ) :=
    window_of d i 0 (k1_off1 i) (k1_off1_inb i) (off1_eq i) (m (eLoc d)) _ (View.write_whole_univ _ _ _)
  have hw1 : Window i (edges m d) 1 (View.write (Elt F) (Memref.whole cc1_scratch1).view ft (tile_body.sl.dma0_1 m d i) Finset.univ) :=
    window_of d i 1 (k1_off2 i) (k1_off2_inb i) (off2_eq i) (m (eLoc d)) _ (View.write_whole_univ _ _ _)
  generalize View.write (Elt F) (Memref.whole cc1_scratch0).view fs (tile_body.sl.dma0 m d i) Finset.univ = fs' at hw0
  generalize View.write (Elt F) (Memref.whole cc1_scratch1).view ft (tile_body.sl.dma0_1 m d i) Finset.univ = ft' at hw1
  have hv : (tile_body.sl.v29 i).toNat = lo i := v29_eq i
  sl_for (invZ (F := F) d i) $$ [Ha']
  case region =>
    intro k _
    unfold invZ
    iintro ⟨%f, %hf, Ha⟩
    iapply (zero_trip (F := F) d i k f hf)
    iexact Ha
  · unfold invZ
    iexists fa; isplitr
    · ipureintro; exact fun j hj => absurd hj (Nat.not_lt_zero _)
    iexact Ha'
  unfold invZ
  iintro %_ ⟨%fz, %hz, Ha'⟩
  have hz' : Slab i (edges m d) (80 * 0) fz := fun j => (hz j (show (j 0).val < 32 from (j 0).isLt)).trans (by simp [cnt])
  sl_for (invC (F := F) d i (edges m d) fs' ft') $$ [Hs' Ht' Ha']
  case region =>
    intro k _
    unfold invC
    iintro ⟨Hs, Ht, ⟨%f, %hf, Ha⟩⟩
    iapply (count_trip (F := F) d i hE hv (tile_body.sl.v30 i) hw0 hw1 k f hf)
    isplitl [Hs]; · iexact Hs
    isplitl [Ht]; · iexact Ht
    iexact Ha
  · unfold invC
    isplitl [Hs']; · iexact Hs'
    isplitl [Ht']; · iexact Ht'
    iexists fz; isplitr
    · ipureintro; exact hz'
    iexact Ha'
  unfold invC
  iintro %_ ⟨Hs, Ht, ⟨%fn, %hn, Ha⟩⟩
  ihave Ha' := (Entails.of_eq (pts_a (F := F) d i _).symm) $$ Ha
  sl_exec
  sl_step
  ihave Hc := (Entails.of_eq (pts_cRow (F := F) d i _)) $$ Hc'
  ihave Hc := (Entails.of_eq (pointsTo_congr (q := fullShare) (rows_of (F := F) d i (edges m d) (f := fn) hn fc))) $$ Hc
  isplitl [He' Hc]
  · isplitl [He']; · iapply (Entails.of_eq (pts_e (F := F) d i _ _)); iexact He'
    iexact Hc
  isplitl [Hs Ht Ha' Hbufs]
  · isplitl [Hs]; · iexists _; iexact Hs
    isplitl [Ht]; · iexists _; iexact Ht
    isplitl [Ha']; · iexists _; iexact Ha'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-! ## The launch's obligations for the call -/

/-- A tile's place in the grid. -/
def at' (c : Fin (grid1.bound 0)) (s : Fin (grid1.bound 1)) : grid1.Coords :=
  fun | 0 => c | 1 => s | ⟨_ + 2, h⟩ => absurd h (Nat.not_lt.2 (Nat.le_add_left _ _))

abbrev goPts (d : Dev nD) (i : grid1.Coords) : sProp 𝕄 := iprop(eShPts m d i ∗ ∃ f, cRowPts d i f)
abbrev tdPts (d : Dev nD) (i : grid1.Coords) : sProp 𝕄 := iprop(eShPts m d i ∗ cRowPts d i (counts (edges m d)))

/-- The call hands each core its sixteen tiles' pieces: a share of the edge list and thirty-two rows of the counts each; it gets
    them back with the counts written. -/
def P : (K F).Pay (nD := nD) (Val := Elt F) (Name := ℕ) (U := UU) where
  st := fun q d c => match q with | 0 => bigSep Finset.univ fun s : Fin ((K F).nSub 0) => goPts m d (at' c s)
  dn := fun q d c => match q with | 0 => bigSep Finset.univ fun s : Fin ((K F).nSub 0) => tdPts m d (at' c s)
  go := fun q d c s => match q with | 0 => goPts m d (at' c s)
  td := fun q d c s => match q with | 0 => tdPts m d (at' c s)
  x := fun _ _ => iprop(emp)

instance P_storable : (P (F := F) m).IsStorable where
  st q d c := match q with
    | 0 => (inferInstance : BI.Storable (upEmb : UEmb _ 𝕄) (bigSep Finset.univ fun s : Fin ((K F).nSub 0) => goPts m d (at' c s)))
  dn q d c := match q with
    | 0 => (inferInstance : BI.Storable (upEmb : UEmb _ 𝕄) (bigSep Finset.univ fun s : Fin ((K F).nSub 0) => tdPts m d (at' c s)))
  go q d c s := match q with
    | 0 => (inferInstance : BI.Storable (upEmb : UEmb _ 𝕄) (goPts m d (at' c s)))
  td q d c s := match q with
    | 0 => (inferInstance : BI.Storable (upEmb : UEmb _ 𝕄) (tdPts m d (at' c s)))

/-- What a tile runs at the call: the edge counts' body at its pair of coordinates. -/
theorem body_at (c : Fin τ.nSC) (s : Fin τ.nSub) :
    defs₀ (F := F) (.scVector c s) 1 ()
      = SparseCore.onTile hcore1 hsub1 (fun c s => cc1__sc_edge_counts_body (at' c s)
          eV (Memref.isWhole_whole _) cV' (Memref.isWhole_whole _) sV (Memref.isWhole_whole _) tV (Memref.isWhole_whole _) aV (Memref.isWhole_whole _)
          cc1_scoped0 cc1_scoped1 cc1_scoped2) ⟨⟩ c s := rfl

omit [FloatOps F] [Named F] in
/-- A body's waits, recorded as the launch records them. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  isplitl [HA]; · iexact HA
  isplitl [HB]; · iexact HB
  isplitl [HC]; · iexact HC
  iexists W'; isplitr
  · ipureintro; intro p hp; rcases hW p hp with h | h
    · exact .inl h
    · exact .inr (.inl h)
  iexact HO

/-- Every word of the edge list names a node, on every device. -/
def EdgesOK : Prop := ∀ d : Dev nD, InRange (edges m d)

set_option maxRecDepth 16384 in
/-- Every tile, given its share of the edge list and its rows, ends with its rows holding the counts. -/
theorem tileObl (hF : (K F).Facts) (hE : EdgesOK m) : (K F).TileObl (D F) 𝒱 (P m) v₀ 0 := by
  intro d c s O W hO _ _
  simp only [show (P m).ox = fun _ _ => 0 from rfl, add_zero]
  have hcs : ((K F).core 0 c).val < grid1.bound 0 ∧ ((K F).sub 0 s).val < grid1.bound 1 := ⟨c.isLt, s.isLt⟩
  change _ ⊢ wp _ _ _ (Pipeline.liftProg (defs₀ (F := F) (.scVector ((K F).core 0 c) ((K F).sub 0 s)) 1 ())) _
  refine BI.Entails.trans ?_ (Pipeline.wp_liftProg (D F) (Pipeline.defs_kernel pcfgs defs₀) 𝒱₀ _ Set.univ none _ _)
  rw [body_at]; simp only [SparseCore.onTile, hcs, and_self, ↓reduceDIte]
  exact (tile_body m d (at' ⟨_, hcs.1⟩ ⟨_, hcs.2⟩) hF (hE d) O W hO).trans (wp_mono frame _ _ fun _ => waits_weaken)

/-- The operands of the call split among the tiles, and what the tiles give back joins. -/
theorem vecSplit : (K F).VecSplit' (P m) 0 := by
  intro d c
  show (bigSep Finset.univ fun s : Fin ((K F).nSub 0) => goPts m d (at' c s)) ⊢ |={Set.univ}=> iprop(
      (bigSep Finset.univ fun s : Fin ((K F).nSub 0) => goPts m d (at' c s))
      ∗ ((bigSep Finset.univ fun s : Fin ((K F).nSub 0) => tdPts m d (at' c s)) -∗ bigSep Finset.univ fun s : Fin ((K F).nSub 0) => tdPts m d (at' c s)))
  iintro H; imodintro
  isplitl [H]; · iexact H
  iintro H; iexact H

/-! ## The edge list's shares and the counts' rows -/

omit [FloatOps F] [Named F] in
/-- Three conjuncts, the first two exchanged. -/
theorem sep3 (A B C : sProp 𝕄) : iprop(A ∗ B ∗ C) = iprop((B ∗ A) ∗ C) := by
  have h1 : iprop(A ∗ B ∗ C) ⊢ iprop((B ∗ A) ∗ C) := by
    iintro ⟨H, H1, H2⟩
    isplitl [H H1]
    · isplitl [H1]; · iexact H1
      iexact H
    iexact H2
  have h2 : iprop((B ∗ A) ∗ C) ⊢ iprop(A ∗ B ∗ C) := by
    iintro ⟨⟨H1, H⟩, H2⟩
    isplitl [H]; · iexact H
    isplitl [H1]; · iexact H1
    iexact H2
  exact BI.Entails.antisymm h1 h2

omit [FloatOps F] [Named F] in
/-- A whole buffer is its first `n` shares and what is left. -/
theorem shares {ℓ : Loc nD τ sig} (f : Buf (Elt F) ℓ) (n : ℕ) :
    (ℓ ↦{fullShare} f : sProp 𝕄) = iprop((bigSep (Finset.range n) fun k => ℓ ↦{share k} f) ∗ ℓ ↦{left n} f) := by
  induction n with
  | zero =>
    rw [Finset.range_zero, bigSep_empty]
    exact BI.Entails.antisymm emp_sep.2 emp_sep.1
  | succ n ih =>
    have e : left (n + 1) = (left n).right := Function.iterate_succ_apply' _ _ _
    rw [ih, Finset.range_add_one, SparseCore.bigSep_insert' Finset.notMem_range_self, e, BI.Entails.antisymm (pointsTo_share (ℓ := ℓ) (I := Finset.univ) (f := f) (PosShare.mem_left_op_right (left n))).1 (pointsTo_share (PosShare.mem_left_op_right (left n))).2]
    exact sep3 _ _ _

omit [FloatOps F] [Named F] in
/-- Thirty-two pieces, dealt two cores at a time, sixteen tiles each. -/
theorem deal (Φ : ℕ → sProp 𝕄) :
    (bigSep (Finset.range 32) Φ) = bigSep Finset.univ fun c : Fin 2 => bigSep Finset.univ fun s : Fin 16 => Φ (16 * c.val + s.val) := by
  have h : (Finset.range 32) = Finset.univ.map (⟨fun p : Fin 2 × Fin 16 => 16 * p.1.val + p.2.val, by
      rintro ⟨a, b⟩ ⟨a', b'⟩ h
      have h' : 16 * a.val + b.val = 16 * a'.val + b'.val := h
      have h1 : a.val = a'.val := by omega
      have h2 : b.val = b'.val := by omega
      exact Prod.ext (Fin.ext h1) (Fin.ext h2)⟩ : Fin 2 × Fin 16 ↪ ℕ) := by decide
  rw [h, bigSep_map, bigSep_univ_prod]
  rfl

/-- Tile `k` of the thirty-two, in the order of the edge list's shares. -/
def tileOf (k : ℕ) : grid1.Coords := at' ⟨k / 16 % 2, Nat.mod_lt _ (by decide)⟩ ⟨k % 16, Nat.mod_lt _ (by decide)⟩

/-- The tile numbered `16 c + s` is subcore `s` of SparseCore `c`. -/
theorem tileOf_at (c : Fin 2) (s : Fin 16) : tileOf (16 * c.val + s.val) = at' c s := by
  unfold tileOf
  congr 1
  · exact Fin.ext (by show (16 * c.val + s.val) / 16 % 2 = c.val; omega)
  · exact Fin.ext (by show (16 * c.val + s.val) % 16 = s.val; omega)

/-- Tile `k` holds thirty-two rows: those of group `k % 4` from row `32 (k / 4)` on. -/
theorem row_mem (k : ℕ) (hk : k < 32) (y : S1024x256.Idx) :
    y ∈ cSet (tileOf k) ↔ 256 * (k % 4) + 32 * (k / 4) ≤ (y 0).val ∧ (y 0).val < 256 * (k % 4) + 32 * (k / 4) + 32 := by
  have e : ∀ k < 32, k1_off24 (tileOf k) = ![256 * (k % 4) + 32 * (k / 4), 0] := by
    intro k hk; rw [off24_eq]; unfold grp lo tileOf
    show ![256 * ((16 * (k / 16 % 2) + k % 16) % 4) + 32 * ((16 * (k / 16 % 2) + k % 16) / 4), 0] = _
    rw [show 16 * (k / 16 % 2) + k % 16 = k by omega]
  have hy : (y 1).val < 256 := (y 1).isLt
  unfold cSet
  rw [(cRect (tileOf k)).mem_set, Fin.forall_fin_two]
  show (∃ j < 32, (y 0).val = k1_off24 (tileOf k) 0 + 1 * j) ∧ (∃ j < 256, (y 1).val = k1_off24 (tileOf k) 1 + 1 * j) ↔ _
  rw [e k hk]
  show (∃ j < 32, (y 0).val = 256 * (k % 4) + 32 * (k / 4) + 1 * j) ∧ (∃ j < 256, (y 1).val = 0 + 1 * j) ↔ _
  constructor
  · rintro ⟨⟨j, hj, h⟩, -⟩; omega
  · rintro ⟨h1, h2⟩
    exact ⟨⟨(y 0).val - (256 * (k % 4) + 32 * (k / 4)), by omega, by omega⟩, ⟨(y 1).val, hy, by omega⟩⟩

omit [FloatOps F] [Named F] in
/-- The counts' array is its thirty-two blocks of rows. -/
theorem rows (d : Dev nD) (f : Buf (Elt F) (cLoc d)) :
    (cLoc d ↦{fullShare} f : sProp 𝕄) = bigSep (Finset.range 32) fun k => cLoc d ↦[cSet (tileOf k)]{fullShare} f := by
  have hcov : (Finset.range 32).biUnion (fun k => cSet (tileOf k)) = Finset.univ := by
    ext y
    have hy : (y 0).val < 1024 := (y 0).isLt
    simp only [Finset.mem_biUnion, Finset.mem_range, Finset.mem_univ, iff_true]
    refine ⟨4 * ((y 0).val % 256 / 32) + (y 0).val / 256, by omega, ?_⟩
    rw [row_mem _ (by omega)]
    omega
  have hdis : ∀ k ∈ Finset.range 32, ∀ k' ∈ Finset.range 32, k ≠ k' → Disjoint (cSet (tileOf k)) (cSet (tileOf k')) := by
    intro k hk k' hk' hne
    rw [Finset.disjoint_left]
    intro y h1 h2
    rw [row_mem _ (Finset.mem_range.1 hk)] at h1
    rw [row_mem _ (Finset.mem_range.1 hk')] at h2
    have := Finset.mem_range.1 hk
    have := Finset.mem_range.1 hk'
    omega
  rw [← pointsTo_biUnion (Finset.range 32) (ℓ := cLoc d) (fun k => cSet (tileOf k)) hdis, hcov]

/-- A tile's share of the edge list and a piece beside it, by the tile's number. -/
theorem piece_at (d : Dev nD) (c : Fin 2) (s : Fin 16) (X : sProp 𝕄) :
    (iprop(eShPts m d (at' c s) ∗ X) : sProp 𝕄) = iprop((eLoc d ↦{share (16 * c.val + s.val)} m (eLoc d)) ∗ X) := rfl

/-- What the call takes: the edge list and the counts' array whole, less the share of the edge list kept back. -/
theorem st_of (d : Dev nD) :
    (iprop((eLoc d ↦{fullShare} m (eLoc d)) ∗ ∃ f : Buf (Elt F) (cLoc d), cLoc d ↦{fullShare} f) : sProp 𝕄)
      ⊢ iprop((eLoc d ↦{left 32} m (eLoc d)) ∗ bigSep Finset.univ fun c : Fin ((K F).nCore 0) => (P m).st 0 d c) := by
  have e : (bigSep Finset.univ fun c : Fin ((K F).nCore 0) => (P m).st 0 d c)
      = iprop((bigSep (Finset.range 32) fun k => eLoc d ↦{share k} m (eLoc d)) ∗ bigSep (Finset.range 32) fun k => iprop(∃ f : Buf (Elt F) (cLoc d), cLoc d ↦[cSet (tileOf k)]{fullShare} f)) := by
    rw [← bigSep_sep', deal]
    refine bigSep_congr fun c _ => Eq.trans (bigSep_congr fun s _ => ?_ : (bigSep Finset.univ fun s : Fin 16 => goPts m d (at' c s)) = _) rfl
    rw [tileOf_at]
    exact piece_at m d c s _
  rw [e, shares (m (eLoc d)) 32]
  iintro ⟨⟨He, Hl⟩, ⟨%f, Hc⟩⟩
  isplitl [Hl]; · iexact Hl
  isplitl [He]; · iexact He
  ihave Hc := (Entails.of_eq (rows d f)) $$ Hc
  have hex : ∀ k : ℕ, (cLoc d ↦[cSet (tileOf k)]{fullShare} f : sProp 𝕄) ⊢ iprop(∃ f : Buf (Elt F) (cLoc d), cLoc d ↦[cSet (tileOf k)]{fullShare} f) :=
    fun k => by iintro H; iexists f; iexact H
  have hall : iprop(bigSep (Finset.range 32) fun k => (cLoc d ↦[cSet (tileOf k)]{fullShare} f : sProp 𝕄))
      ⊢ iprop(bigSep (Finset.range 32) fun k => iprop(∃ f : Buf (Elt F) (cLoc d), cLoc d ↦[cSet (tileOf k)]{fullShare} f)) := bigSep_mono fun k _ => hex k
  iapply hall
  iexact Hc

/-- What the call gives back: both arrays whole, the counts' one holding the counts. -/
theorem dn_of (d : Dev nD) :
    (iprop((eLoc d ↦{left 32} m (eLoc d)) ∗ bigSep Finset.univ fun c : Fin ((K F).nCore 0) => (P m).dn 0 d c) : sProp 𝕄)
      ⊢ iprop((eLoc d ↦{fullShare} m (eLoc d)) ∗ cLoc d ↦{fullShare} counts (edges m d)) := by
  have e : (bigSep Finset.univ fun c : Fin ((K F).nCore 0) => (P m).dn 0 d c)
      = iprop((bigSep (Finset.range 32) fun k => eLoc d ↦{share k} m (eLoc d)) ∗ bigSep (Finset.range 32) fun k => cLoc d ↦[cSet (tileOf k)]{fullShare} counts (edges m d)) := by
    rw [← bigSep_sep', deal]
    refine bigSep_congr fun c _ => Eq.trans (bigSep_congr fun s _ => ?_ : (bigSep Finset.univ fun s : Fin 16 => tdPts m d (at' c s)) = _) rfl
    rw [tileOf_at]
    exact piece_at m d c s _
  rw [e, shares (m (eLoc d)) 32, rows d]
  iintro ⟨Hl, He, Hc⟩
  isplitl [He Hl]
  · isplitl [He]; · iexact He
    iexact Hl
  iexact Hc

end Cert.Proof.K

end
-- ==== Proof.Reg.lean ====
/- The two TensorCore kernels: each one's body run at its staging buffers, what it leaves in its result's array, and the
   region that stages it. -/
module

public import proofs.«01_k».proof.Proof.Body
public import proofs.«01_k».proof.Proof.Gen.KernelIdeal.Skeleton
public import proofs.«01_k».proof.Proof.Gen.KernelIdeal.Points
public import Idealize.ShloMosaic.Lib.Pipeline.RegionsLoop
public import Idealize.ShloMosaic.Lib.Pipeline.FrameTail
public import Idealize.ShloMosaic.Lib.Pipeline.ValueKit.Geometry

@[expose] public section

noncomputable section

namespace Cert.Proof.K

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

/-- A memref's buffer on a core: its contents type, and it held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## What the two bodies compute -/

/-- Rows `r …` of the 512-row weight, as the body's load reads them. -/
def half (w : Vec F S512x256 .f32) (r : ℕ) (hr : r + 256 ≤ 512) : Vec F S256x256 .f32 := fun y =>
  w (fun a => match a with
    | ⟨0, _⟩ => ⟨r + (y 0).val, by have := (y 0).isLt; simp only [Matrix.cons_val_zero] at this ⊢; change (y 0).val < 256 at this; change _ < 512; omega⟩
    | ⟨1, _⟩ => ⟨(y 1).val, (y 1).isLt⟩)

/-- The first kernel's result: the two halves of the gathered positional rows, each through its half of the weight. -/
def tc1Val (x : Vec F S2x500 .i32) (pe : Vec F S512x256 .f32) (w : Vec F S512x256 .f32) : FVec F S256x256 .f32 :=
  k0_pay1 (k0_pay3 pe) (k0_pay4 x pe) (k0_pay5 x) (Scalar.ofBits .f32 0x3F800000#32) (half w 0 (by norm_num)) (half w 256 (by norm_num))

/-- The second kernel's result: the two graph layers over the counts, the mean over the nodes, and the last layer. -/
def tc2Val (c : Vec F S1024x256 .f32) (h : Vec F S256x256 .f32) (b1 : Vec F S1x256 .f32) (w2 : Vec F S256x256 .f32) (b2 : Vec F S1x256 .f32)
    (wf : Vec F S256x1 .f32) (bf : Vec F S1x1 .f32) : FVec F S1x1 .f32 :=
  k2_pay1 (k2_pay2 c) (k2_pay3 c) (k2_pay4 c h b1 w2) b2 wf bf

set_option maxRecDepth 8192 in
/-- The first TensorCore kernel from its four staging buffers: it runs to its end with the first three as they were. -/
noncomputable def run0 (c : Dev nD) (f0 : Bf (F := F) c (stage0_0 0)) (f1 : Bf (F := F) c (stage0_1 0)) (f2 : Bf (F := F) c (stage0_2 0)) :
    { W : Bf (F := F) c (stage0_3 0) // ∀ (f3 : Bf (F := F) c (stage0_3 0)) (E : Set ℕ) (Q : PUnit → sProp 𝕄),
        iprop(pt c (stage0_0 0) f0 ∗ pt c (stage0_1 0) f1 ∗ pt c (stage0_2 0) f2 ∗ pt c (stage0_3 0) f3
          ∗ (iprop(pt c (stage0_0 0) f0 ∗ pt c (stage0_1 0) f1 ∗ pt c (stage0_2 0) f2 ∗ pt c (stage0_3 0) W) -∗ Q ⟨⟩))
          ⊢ wp frame (wpE (defs₀ (F := F)) Variants.none c none) E
              (cc0__tc1_body (stage0_0 0) (hstage0_0 0) (stage0_1 0) (hstage0_1 0) (stage0_2 0) (hstage0_2 0) (stage0_3 0) (hstage0_3 0)) Q } := by
  refine ⟨?_, fun f3 E Q => ?run⟩
  case run =>
    rw [cc0__tc1_body_eq_skeleton]; unfold cc0__tc1_body_skel; rw [k0_part1_eq_skeleton]; unfold k0_part1_skel
    iintro ⟨H0, H1, H2, H3, Hk⟩
    sl_exec!
    sl_step
    iapply Hk
    isplitl [H0]; · iexact H0
    isplitl [H1]; · iexact H1
    isplitl [H2]; · iexact H2
    iexact H3

set_option maxRecDepth 8192 in
/-- The second TensorCore kernel from its eight staging buffers, likewise. -/
noncomputable def run2 (c : Dev nD) (f0 : Bf (F := F) c (stage2_0 0)) (f1 : Bf (F := F) c (stage2_1 0)) (f2 : Bf (F := F) c (stage2_2 0))
    (f3 : Bf (F := F) c (stage2_3 0)) (f4 : Bf (F := F) c (stage2_4 0)) (f5 : Bf (F := F) c (stage2_5 0)) (f6 : Bf (F := F) c (stage2_6 0)) :
    { W : Bf (F := F) c (stage2_7 0) // ∀ (f7 : Bf (F := F) c (stage2_7 0)) (E : Set ℕ) (Q : PUnit → sProp 𝕄),
        iprop(pt c (stage2_0 0) f0 ∗ pt c (stage2_1 0) f1 ∗ pt c (stage2_2 0) f2 ∗ pt c (stage2_3 0) f3
          ∗ pt c (stage2_4 0) f4 ∗ pt c (stage2_5 0) f5 ∗ pt c (stage2_6 0) f6 ∗ pt c (stage2_7 0) f7
          ∗ (iprop(pt c (stage2_0 0) f0 ∗ pt c (stage2_1 0) f1 ∗ pt c (stage2_2 0) f2 ∗ pt c (stage2_3 0) f3
          ∗ pt c (stage2_4 0) f4 ∗ pt c (stage2_5 0) f5 ∗ pt c (stage2_6 0) f6 ∗ pt c (stage2_7 0) W) -∗ Q ⟨⟩))
          ⊢ wp frame (wpE (defs₀ (F := F)) Variants.none c none) E
              (cc2__tc2_body (stage2_0 0) (hstage2_0 0) (stage2_1 0) (hstage2_1 0) (stage2_2 0) (hstage2_2 0) (stage2_3 0) (hstage2_3 0)
                (stage2_4 0) (hstage2_4 0) (stage2_5 0) (hstage2_5 0) (stage2_6 0) (hstage2_6 0) (stage2_7 0) (hstage2_7 0)) Q } := by
  refine ⟨?_, fun f7 E Q => ?run⟩
  case run =>
    rw [cc2__tc2_body_eq_skeleton]; unfold cc2__tc2_body_skel; rw [k2_part1_eq_skeleton]; unfold k2_part1_skel
    iintro ⟨H0, H1, H2, H3, H4, H5, H6, H7, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- What a load of a whole staging buffer reads is its contents. -/
theorem readAt_all {Val : EltTy → Type} (b : Ref sig .tc) {off : Fin b.ty.shape.rank → ℕ} (h0 : off = fun _ => 0)
    (inb : ∀ a, off a + b.ty.shape.size a ≤ b.ty.shape.size a) (f : b.ty.Contents Val) :
    View.readAt Val (View.whole b) (Rect.unit off b.ty.shape.size inb).toLoadRect f = f := by
  subst h0
  exact Memref.readAt_unit_zero Val b rfl _ f

/-- A buffer written whole by one store holds what was stored. -/
theorem writes_all {Val : EltTy → Type} [∀ e, Nonempty (Val e)] (b : Ref sig .tc) {off : Fin b.ty.shape.rank → ℕ} (h0 : off = fun _ => 0)
    (inb : ∀ a, off a + b.ty.shape.size a ≤ b.ty.shape.size a) (g : b.ty.Contents Val) (f : b.ty.shape.Idx → Val b.ty.elt) :
    (View.whole b).writes Val g [⟨Rect.unit off b.ty.shape.size inb, f⟩] = f := by
  subst h0
  have key : ∀ y, (View.whole b).read Val ((View.whole b).writes Val g [⟨Rect.unit (fun _ => 0) b.ty.shape.size inb, f⟩]) y = f y := fun y => by
    have he : (Rect.unit (fun _ => 0) b.ty.shape.size inb).emb y = y := by
      funext a; apply Fin.ext; simp
    have := View.read_writes_cons_hit (View.whole b) g (Rect.unit (fun _ => 0) b.ty.shape.size inb) f [] y y he
    exact this
  funext y; exact key y

/-- The first kernel's body leaves `tc1Val` of what its blocks hold. -/
theorem run0_val (c : Dev nD) (f0 : Bf (F := F) c (stage0_0 0)) (f1 : Bf (F := F) c (stage0_1 0)) (f2 : Bf (F := F) c (stage0_2 0)) :
    (run0 c f0 f1 f2).1 = tc1Val (F := F) f0 f1 f2 := by
  unfold run0; dsimp only; unfold run0.sl.H3_1
  refine (writes_all cc0_stg3_0 (by decide) inb_S256x256_S256x256_0_0 _ _).trans ?_
  rw [show View.readAt (Elt F) (stage0_1 0).view (Rect.unit ![0, 0] S512x256.size inb_S512x256_S512x256_0_0).toLoadRect f1 = f1 from
      readAt_all cc0_stg1_0 (by decide) inb_S512x256_S512x256_0_0 f1,
    show View.readAt (Elt F) (stage0_0 0).view (Rect.unit ![0, 0] S2x500.size inb_S2x500_S2x500_0_0).toLoadRect f0 = f0 from
      readAt_all cc0_stg0_0 (by decide) inb_S2x500_S2x500_0_0 f0]
  unfold tc1Val
  congr 1
  · funext y
    change f2 _ = f2 _
    congr 1; funext a; apply Fin.ext
    match a with
    | ⟨0, _⟩ => simp [half]
    | ⟨1, _⟩ => simp [half]
  · funext y
    change f2 _ = f2 _
    congr 1; funext a; apply Fin.ext
    match a with
    | ⟨0, _⟩ => simp [half]
    | ⟨1, _⟩ => simp [half]

/-- The second kernel's body leaves `tc2Val` of what its blocks hold. -/
theorem run2_val (c : Dev nD) (f0 : Bf (F := F) c (stage2_0 0)) (f1 : Bf (F := F) c (stage2_1 0)) (f2 : Bf (F := F) c (stage2_2 0))
    (f3 : Bf (F := F) c (stage2_3 0)) (f4 : Bf (F := F) c (stage2_4 0)) (f5 : Bf (F := F) c (stage2_5 0)) (f6 : Bf (F := F) c (stage2_6 0)) :
    (run2 c f0 f1 f2 f3 f4 f5 f6).1 = tc2Val (F := F) f0 f1 f2 f3 f4 f5 f6 := by
  unfold run2; dsimp only; unfold run2.sl.H7_1
  refine (writes_all cc2_stg7_0 (by decide) inb_S1x1_S1x1_0_0 _ _).trans ?_
  rw [show View.readAt (Elt F) (stage2_0 0).view (Rect.unit ![0, 0] S1024x256.size inb_S1024x256_S1024x256_0_0).toLoadRect f0 = f0 from
      readAt_all cc2_stg0_0 (by decide) inb_S1024x256_S1024x256_0_0 f0,
    show View.readAt (Elt F) (stage2_1 0).view (Rect.unit ![0, 0] S256x256.size inb_S256x256_S256x256_0_0).toLoadRect f1 = f1 from
      readAt_all cc2_stg1_0 (by decide) inb_S256x256_S256x256_0_0 f1,
    show View.readAt (Elt F) (stage2_2 0).view (Rect.unit ![0, 0] S1x256.size inb_S1x256_S1x256_0_0).toLoadRect f2 = f2 from
      readAt_all cc2_stg2_0 (by decide) inb_S1x256_S1x256_0_0 f2,
    show View.readAt (Elt F) (stage2_3 0).view (Rect.unit ![0, 0] S256x256.size inb_S256x256_S256x256_0_0).toLoadRect f3 = f3 from
      readAt_all cc2_stg3_0 (by decide) inb_S256x256_S256x256_0_0 f3,
    show View.readAt (Elt F) (stage2_4 0).view (Rect.unit ![0, 0] S1x256.size inb_S1x256_S1x256_0_0).toLoadRect f4 = f4 from
      readAt_all cc2_stg4_0 (by decide) inb_S1x256_S1x256_0_0 f4,
    show View.readAt (Elt F) (stage2_5 0).view (Rect.unit ![0, 0] S256x1.size inb_S256x1_S256x1_0_0).toLoadRect f5 = f5 from
      readAt_all cc2_stg5_0 (by decide) inb_S256x1_S256x1_0_0 f5,
    show View.readAt (Elt F) (stage2_6 0).view (Rect.unit ![0, 0] S1x1.size inb_S1x1_S1x1_0_0).toLoadRect f6 = f6 from
      readAt_all cc2_stg6_0 (by decide) inb_S1x1_S1x1_0_0 f6]
  rfl

/-! ## The regions -/

/-- Every core's buffers, and one core's, as the entry of a region finds them. -/
abbrev Vals (F : FTy → Type) [FloatOps F] [Named F] : Type := (c : Dev nD) → (b : Ref sig .tc) → Buf (Elt F) ((c : Thread nD τ).loc b)

/-- The pipelines take no table. -/
abbrev adm : (p : Fin 2) → (pcfgs (F := F) p).Adm := fun p => (cfgs p).toPCfg_adm

/-- The pairs a TensorCore may have recorded when the launch's call `n` is the next: those at a level the calls before it use. -/
def recd (n : ℕ) (c : Dev nD) : Set (SemLoc sig × HIx 1) := {p | (K F).lev (SparseCore.T c, p.1) p.2 ≤ 8 * n}

/-- The scoped buffers the first pipeline does not stage. -/
abbrev Φ0 (c : Dev nD) : sProp 𝕄 := Pipeline.scopedRest (Ix := HIx 1) (Name := ℕ) (U := UU) (Lvl := ℕ) (Val := Elt F) spec0 c
abbrev Φ2 (c : Dev nD) : sProp 𝕄 := Pipeline.scopedRest (Ix := HIx 1) (Name := ℕ) (U := UU) (Lvl := ℕ) (Val := Elt F) spec2 c

variable (V : Vals F)

/-- A window's block at the single point, of the array as the entry finds it. -/
abbrev stg0_0 (c : Dev nD) : (cfg0.win 0).block.Idx → Elt F (cfg0.win 0).elt := ((cfg0.win 0).blk t0_0).view.read (Elt F) (V c (Pipeline.arrRef spec0 0))
abbrev stg0_1 (c : Dev nD) : (cfg0.win 1).block.Idx → Elt F (cfg0.win 1).elt := ((cfg0.win 1).blk t0_0).view.read (Elt F) (V c (Pipeline.arrRef spec0 1))
abbrev stg0_2 (c : Dev nD) : (cfg0.win 2).block.Idx → Elt F (cfg0.win 2).elt := ((cfg0.win 2).blk t0_0).view.read (Elt F) (V c (Pipeline.arrRef spec0 2))
abbrev stg2_0 (c : Dev nD) : (cfg2.win 0).block.Idx → Elt F (cfg2.win 0).elt := ((cfg2.win 0).blk t2_0).view.read (Elt F) (V c (Pipeline.arrRef spec2 0))
abbrev stg2_1 (c : Dev nD) : (cfg2.win 1).block.Idx → Elt F (cfg2.win 1).elt := ((cfg2.win 1).blk t2_0).view.read (Elt F) (V c (Pipeline.arrRef spec2 1))
abbrev stg2_2 (c : Dev nD) : (cfg2.win 2).block.Idx → Elt F (cfg2.win 2).elt := ((cfg2.win 2).blk t2_0).view.read (Elt F) (V c (Pipeline.arrRef spec2 2))
abbrev stg2_3 (c : Dev nD) : (cfg2.win 3).block.Idx → Elt F (cfg2.win 3).elt := ((cfg2.win 3).blk t2_0).view.read (Elt F) (V c (Pipeline.arrRef spec2 3))
abbrev stg2_4 (c : Dev nD) : (cfg2.win 4).block.Idx → Elt F (cfg2.win 4).elt := ((cfg2.win 4).blk t2_0).view.read (Elt F) (V c (Pipeline.arrRef spec2 4))
abbrev stg2_5 (c : Dev nD) : (cfg2.win 5).block.Idx → Elt F (cfg2.win 5).elt := ((cfg2.win 5).blk t2_0).view.read (Elt F) (V c (Pipeline.arrRef spec2 5))
abbrev stg2_6 (c : Dev nD) : (cfg2.win 6).block.Idx → Elt F (cfg2.win 6).elt := ((cfg2.win 6).blk t2_0).view.read (Elt F) (V c (Pipeline.arrRef spec2 6))

/-- The first region's proof data: the arrays as found; after the body the inputs' buffers as fetched and the result's as computed. -/
def dat0 (c : Dev nD) : Dat τ (Elt F) (HIx 1) ℕ UU ℕ cfg0 c where
  A w := V c (Pipeline.arrRef spec0 w)
  after w _ := match w with
    | ⟨0, _⟩ => stg0_0 V c
    | ⟨1, _⟩ => stg0_1 V c
    | ⟨2, _⟩ => stg0_2 V c
    | ⟨3, _⟩ => tc1Val (F := F) (stg0_0 V c) (stg0_1 V c) (stg0_2 V c)
  Φ _ := Φ0 c
  q _ := fullShare
  owed _ := (K F).Otc c 0
  recorded _ := recd (F := F) 0 c

/-- The second region's, likewise. -/
def dat2 (c : Dev nD) : Dat τ (Elt F) (HIx 1) ℕ UU ℕ cfg2 c where
  A w := V c (Pipeline.arrRef spec2 w)
  after w _ := match w with
    | ⟨0, _⟩ => stg2_0 V c
    | ⟨1, _⟩ => stg2_1 V c
    | ⟨2, _⟩ => stg2_2 V c
    | ⟨3, _⟩ => stg2_3 V c
    | ⟨4, _⟩ => stg2_4 V c
    | ⟨5, _⟩ => stg2_5 V c
    | ⟨6, _⟩ => stg2_6 V c
    | ⟨7, _⟩ => tc2Val (F := F) (stg2_0 V c) (stg2_1 V c) (stg2_2 V c) (stg2_3 V c) (stg2_4 V c) (stg2_5 V c) (stg2_6 V c)
  Φ _ := Φ2 c
  q _ := fullShare
  owed _ := (K F).Otc c 1
  recorded _ := recd (F := F) 1 c

/-- Before the first kernel's body, its first operand's block holds what was staged. -/
theorem before0_0 (c : Dev nD) (d) : (dat0 V c).before 0 t0_0 d = stg0_0 V c := by unfold Dat.before; rw [if_pos (by decide)]; rfl
/-- Before the first kernel's body, its second operand's block holds what was staged. -/
theorem before0_1 (c : Dev nD) (d) : (dat0 V c).before 1 t0_0 d = stg0_1 V c := by unfold Dat.before; rw [if_pos (by decide)]; rfl
/-- Before the first kernel's body, its third operand's block holds what was staged. -/
theorem before0_2 (c : Dev nD) (d) : (dat0 V c).before 2 t0_0 d = stg0_2 V c := by unfold Dat.before; rw [if_pos (by decide)]; rfl
/-- Before the second kernel's body, its first operand's block holds what was staged. -/
theorem before2_0 (c : Dev nD) (d) : (dat2 V c).before 0 t2_0 d = stg2_0 V c := by unfold Dat.before; rw [if_pos (by decide)]; rfl
/-- Before the second kernel's body, its second operand's block holds what was staged. -/
theorem before2_1 (c : Dev nD) (d) : (dat2 V c).before 1 t2_0 d = stg2_1 V c := by unfold Dat.before; rw [if_pos (by decide)]; rfl
/-- Before the second kernel's body, its third operand's block holds what was staged. -/
theorem before2_2 (c : Dev nD) (d) : (dat2 V c).before 2 t2_0 d = stg2_2 V c := by unfold Dat.before; rw [if_pos (by decide)]; rfl
/-- Before the second kernel's body, its fourth operand's block holds what was staged. -/
theorem before2_3 (c : Dev nD) (d) : (dat2 V c).before 3 t2_0 d = stg2_3 V c := by unfold Dat.before; rw [if_pos (by decide)]; rfl
/-- Before the second kernel's body, its fifth operand's block holds what was staged. -/
theorem before2_4 (c : Dev nD) (d) : (dat2 V c).before 4 t2_0 d = stg2_4 V c := by unfold Dat.before; rw [if_pos (by decide)]; rfl
/-- Before the second kernel's body, its sixth operand's block holds what was staged. -/
theorem before2_5 (c : Dev nD) (d) : (dat2 V c).before 5 t2_0 d = stg2_5 V c := by unfold Dat.before; rw [if_pos (by decide)]; rfl
/-- Before the second kernel's body, its seventh operand's block holds what was staged. -/
theorem before2_6 (c : Dev nD) (d) : (dat2 V c).before 6 t2_0 d = stg2_6 V c := by unfold Dat.before; rw [if_pos (by decide)]; rfl

/-- The body's duty at the first pipeline's single point. -/
theorem body0 (c : Dev nD) : BodyObligation (dat0 V c) (defs₀ (F := F)) Variants.none none Set.univ := fun t => by
  obtain rfl := fin_N0 t
  rw [bigSep_W0, bigSep_W0]
  simp only [owns_whole_eq]
  rw [show (dat0 V c).Φ t0_0.castSucc = Φ0 c from rfl, show (dat0 V c).Φ t0_0.succ = Φ0 c from rfl,
    show (dat0 V c).owesAt none t0_0.succ = (dat0 V c).owesAt none t0_0.castSucc from rfl]
  iintro ⟨HΦ, Howes, ⟨%d0, %f0, %h0, H0⟩, ⟨%d1, %f1, %h1, H1⟩, ⟨%d2, %f2, %h2, H2⟩, ⟨%d3, %f3, -, H3⟩⟩
  rw [before0_0] at h0
  rw [before0_1] at h1
  rw [before0_2] at h2
  subst h0; subst h1; subst h2
  iapply ((run0 (F := F) c (stg0_0 V c) (stg0_1 V c) (stg0_2 V c)).2 f3 Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexists _; isplitr; swap; (· iexact H0); ipureintro; dsimp only [dat0]
  isplitl [H1]; · iexists _; isplitr; swap; (· iexact H1); ipureintro; dsimp only [dat0]
  isplitl [H2]; · iexists _; isplitr; swap; (· iexact H2); ipureintro; dsimp only [dat0]
  iexists _; isplitr; swap; (· iexact H3); ipureintro; exact run0_val c _ _ _

/-- The body's duty at the second pipeline's single point. -/
theorem body2 (c : Dev nD) : BodyObligation (dat2 V c) (defs₀ (F := F)) Variants.none none Set.univ := fun t => by
  obtain rfl := fin_N2 t
  rw [bigSep_W2, bigSep_W2]
  simp only [owns_whole_eq]
  rw [show (dat2 V c).Φ t2_0.castSucc = Φ2 c from rfl, show (dat2 V c).Φ t2_0.succ = Φ2 c from rfl,
    show (dat2 V c).owesAt none t2_0.succ = (dat2 V c).owesAt none t2_0.castSucc from rfl]
  iintro ⟨HΦ, Howes, ⟨%d0, %f0, %h0, H0⟩, ⟨%d1, %f1, %h1, H1⟩, ⟨%d2, %f2, %h2, H2⟩, ⟨%d3, %f3, %h3, H3⟩,
    ⟨%d4, %f4, %h4, H4⟩, ⟨%d5, %f5, %h5, H5⟩, ⟨%d6, %f6, %h6, H6⟩, ⟨%d7, %f7, -, H7⟩⟩
  rw [before2_0] at h0
  rw [before2_1] at h1
  rw [before2_2] at h2
  rw [before2_3] at h3
  rw [before2_4] at h4
  rw [before2_5] at h5
  rw [before2_6] at h6
  subst h0; subst h1; subst h2; subst h3; subst h4; subst h5; subst h6
  iapply ((run2 (F := F) c (stg2_0 V c) (stg2_1 V c) (stg2_2 V c) (stg2_3 V c) (stg2_4 V c) (stg2_5 V c) (stg2_6 V c)).2 f7 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Howes]; · iexact Howes
  isplitl [H0]; · iexists _; isplitr; swap; (· iexact H0); ipureintro; dsimp only [dat2]
  isplitl [H1]; · iexists _; isplitr; swap; (· iexact H1); ipureintro; dsimp only [dat2]
  isplitl [H2]; · iexists _; isplitr; swap; (· iexact H2); ipureintro; dsimp only [dat2]
  isplitl [H3]; · iexists _; isplitr; swap; (· iexact H3); ipureintro; dsimp only [dat2]
  isplitl [H4]; · iexists _; isplitr; swap; (· iexact H4); ipureintro; dsimp only [dat2]
  isplitl [H5]; · iexists _; isplitr; swap; (· iexact H5); ipureintro; dsimp only [dat2]
  isplitl [H6]; · iexists _; isplitr; swap; (· iexact H6); ipureintro; dsimp only [dat2]
  iexists _; isplitr; swap; (· iexact H7); ipureintro; exact run2_val c _ _ _ _ _ _ _

/-- The two pipelines' proof data, each at its own entry. -/
def pdats (V0 V2 : Vals F) : (p : Fin 2) → (c : Dev nD) → Dat τ (Elt F) (HIx 1) ℕ UU ℕ (Pipeline.pin (pcfgs (F := F)) adm p) c
  | ⟨0, _⟩ => fun c => dat0 V0 c
  | ⟨1, _⟩ => fun c => dat2 V2 c

/-- A TensorCore's debts to the launch are all at a call's index, none at the staging's. -/
theorem Otc_none (c : Dev nD) (n : ℕ) (g : GSem nD τ sig) : (K F).Otc c n g (none : HIx 1) = 0 := by
  by_contra h
  have := (K F).lev_of_Otc_pos (Nat.pos_of_ne_zero h)
  simp at this

/-- A pair the staging leaves recorded is at the level it was bounded by, or at the staging's own, the lowest. -/
theorem below_of_bound {cfg : Pipeline.Cfg sig Λ₀} {c : Dev nD} (dat : Dat τ (Elt F) (HIx 1) ℕ UU ℕ cfg c) (n : ℕ) {t : Fin (cfg.N + 1)}
    (hr : dat.recorded t = recd (F := F) n c) {W : Waits sig (HIx 1)} (hW : ∀ p ∈ W, p ∈ dat.bound none t) :
    (K F).WBelow (SparseCore.T c) W (8 * n) := fun p hp => by
  rcases hW p hp with h | h
  · rw [hr] at h; exact h
  · obtain ⟨w, s, rfl⟩ := h
    exact Nat.zero_le _

variable (V0 V2 Vp : Vals F)

set_option backward.isDefEq.respectTransparency.types false in
/-- The region of kernel 0: entered from every unscoped buffer at `V0` and the core's debts before call 0, left with the
    result's array as the kernel computes it, the other buffers and the debts as they were. -/
def reg0 (R : Dev nD → sProp 𝕄) (hVp_out : ∀ c, Vp c main_v22 = (dat0 V0 c).arrAt 3 cfg0.N)
    (hVp_ne : ∀ c (b : Ref sig .tc), b ≠ main_v22 → Vp c b = V0 c b) :
    Pipeline.RegionSeg (pcfgs (F := F)) adm (pdats V0 V2) none defs₀ Variants.none (K F).L (K F).lev 0 where
  win := launch0.win.to₀
  block_pos := launch0.block_pos
  stage_whole := launch0.stage_whole
  K := PEmpty
  osem k := k.elim
  ho := Pipeline.OwnSemFacts.none _
  hbody c := (body0 V0 c).loose
  hwaits c := Pipeline.cellsWaits_intro _ _ _ _ _ fun w s t => (K F).mayWait_none _ fun g => Otc_none c 0 g
  pre c := iprop(unscopedBufs c (V0 c) ∗ R c ∗ ∃ W, ⌜(K F).WBelow (SparseCore.T c) W (8 * 0)⌝ ∗ owes (c : Thread nD τ) ((K F).Otc c 0) W)
  post c := iprop(unscopedBufs c (Vp c) ∗ R c ∗ ∃ W, ⌜(K F).WBelow (SparseCore.T c) W (8 * 0)⌝ ∗ owes (c : Thread nD τ) ((K F).Otc c 0) W)
  X _ := BI.emp
  Y _ := BI.emp
  Z c := iprop(Pipeline.unscopedRest (Ix := HIx 1) (Name := ℕ) (U := UU) (Lvl := ℕ) spec0 c (V0 c) ∗ R c)
  hentry c := by
    rw [Pipeline.ownSems0_none]
    have hsplit := Pipeline.arrays_of_unscopedBufs (p := 0) (pcfgs (F := F)) adm (pdats V0 V2) launch0.win launch0.arr_whole c
      ((pdats V0 V2 0 c).share_full fun _ => rfl) (V0 c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun q hq => Or.inl (hW q hq)
      iexact HO
    isplitr; · iempintro
    isplitl [Hrest] <;> iassumption
  hin c := by
    rw [show (pdats V0 V2 0 c).Φ 0 = Φ0 c from rfl]
    iintro ⟨-, -, Hr⟩; iexact Hr
  hout c := by
    rw [Pipeline.ownSems0_none, show (pdats V0 V2 0 c).Φ (Fin.last _) = Φ0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V0 V2) ((pdats V0 V2 0 c).share_full fun _ => rfl) (V0 c) (Vp c) ((pdats V0 V2 0 c).arrAt · cfg0.N)
      (fun w => by
        fin_cases w
        · exact ((pdats V0 V2 0 c).arrAt_in 0 rfl _).trans (hVp_ne c main_arg0 (by decide)).symm
        · exact ((pdats V0 V2 0 c).arrAt_in 1 rfl _).trans (hVp_ne c main_v21 (by decide)).symm
        · exact ((pdats V0 V2 0 c).arrAt_in 2 rfl _).trans (hVp_ne c main_arg2 (by decide)).symm
        · exact (hVp_out c).symm)
      (fun b hb => hVp_ne c b fun h => hb (h ▸ Finset.mem_image.mpr ⟨3, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W
    isplitr
    · ipureintro; exact below_of_bound (dat0 V0 c) 0 rfl hW
    iexact HO

set_option backward.isDefEq.respectTransparency.types false in
/-- The region of kernel 2: entered from every unscoped buffer at `V2` and the core's debts before call 1, left with the
    result's array as the kernel computes it, the other buffers and the debts as they were. -/
def reg2 (R : Dev nD → sProp 𝕄) (hVp_out : ∀ c, Vp c main_v27 = (dat2 V2 c).arrAt 7 cfg2.N)
    (hVp_ne : ∀ c (b : Ref sig .tc), b ≠ main_v27 → Vp c b = V2 c b) :
    Pipeline.RegionSeg (pcfgs (F := F)) adm (pdats V0 V2) none defs₀ Variants.none (K F).L (K F).lev 1 where
  win := launch2.win.to₀
  block_pos := launch2.block_pos
  stage_whole := launch2.stage_whole
  K := PEmpty
  osem k := k.elim
  ho := Pipeline.OwnSemFacts.none _
  hbody c := (body2 V2 c).loose
  hwaits c := Pipeline.cellsWaits_intro _ _ _ _ _ fun w s t => (K F).mayWait_none _ fun g => Otc_none c 1 g
  pre c := iprop(unscopedBufs c (V2 c) ∗ R c ∗ ∃ W, ⌜(K F).WBelow (SparseCore.T c) W (8 * 1)⌝ ∗ owes (c : Thread nD τ) ((K F).Otc c 1) W)
  post c := iprop(unscopedBufs c (Vp c) ∗ R c ∗ ∃ W, ⌜(K F).WBelow (SparseCore.T c) W (8 * 1)⌝ ∗ owes (c : Thread nD τ) ((K F).Otc c 1) W)
  X _ := BI.emp
  Y _ := BI.emp
  Z c := iprop(Pipeline.unscopedRest (Ix := HIx 1) (Name := ℕ) (U := UU) (Lvl := ℕ) spec2 c (V2 c) ∗ R c)
  hentry c := by
    rw [Pipeline.ownSems0_none]
    have hsplit := Pipeline.arrays_of_unscopedBufs (p := 1) (pcfgs (F := F)) adm (pdats V0 V2) launch2.win launch2.arr_whole c
      ((pdats V0 V2 1 c).share_full fun _ => rfl) (V2 c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun q hq => Or.inl (hW q hq)
      iexact HO
    isplitr; · iempintro
    isplitl [Hrest] <;> iassumption
  hin c := by
    rw [show (pdats V0 V2 1 c).Φ 0 = Φ2 c from rfl]
    iintro ⟨-, -, Hr⟩; iexact Hr
  hout c := by
    rw [Pipeline.ownSems0_none, show (pdats V0 V2 1 c).Φ (Fin.last _) = Φ2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats V0 V2) ((pdats V0 V2 1 c).share_full fun _ => rfl) (V2 c) (Vp c) ((pdats V0 V2 1 c).arrAt · cfg2.N)
      (fun w => by
        fin_cases w
        · exact ((pdats V0 V2 1 c).arrAt_in 0 rfl _).trans (hVp_ne c main_v23 (by decide)).symm
        · exact ((pdats V0 V2 1 c).arrAt_in 1 rfl _).trans (hVp_ne c main_v22 (by decide)).symm
        · exact ((pdats V0 V2 1 c).arrAt_in 2 rfl _).trans (hVp_ne c main_v24 (by decide)).symm
        · exact ((pdats V0 V2 1 c).arrAt_in 3 rfl _).trans (hVp_ne c main_arg4 (by decide)).symm
        · exact ((pdats V0 V2 1 c).arrAt_in 4 rfl _).trans (hVp_ne c main_v25 (by decide)).symm
        · exact ((pdats V0 V2 1 c).arrAt_in 5 rfl _).trans (hVp_ne c main_arg6 (by decide)).symm
        · exact ((pdats V0 V2 1 c).arrAt_in 6 rfl _).trans (hVp_ne c main_v26 (by decide)).symm
        · exact (hVp_out c).symm)
      (fun b hb => hVp_ne c b fun h => hb (h ▸ Finset.mem_image.mpr ⟨7, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W
    isplitr
    · ipureintro; exact below_of_bound (dat2 V2 c) 1 rfl hW
    iexact HO

end Cert.Proof.K

end
-- ==== Proof.RegVal.lean ====
/- What the two regions leave in their results' arrays, in terms of the arrays as the regions find them. -/
module

public import proofs.«01_k».proof.Proof.Reg
public import Idealize.ShloMosaic.Lib.Pipeline.ValueKit

@[expose] public section

noncomputable section

namespace Cert.Proof.K

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

variable (V : Vals F)

/-- Every block of the first kernel starts at the origin. -/
theorem idx0 : ∀ t : Fin cfg0.N, win0_0.index t = ![0, 0] ∧ win0_1.index t = ![0, 0] ∧ win0_2.index t = ![0, 0] ∧ win0_3.index t = ![0, 0] :=
  (by decide +kernel : ∀ t : Fin grid0.N, _)
/-- Every block of the second kernel starts at the origin. -/
theorem idx2 : ∀ t : Fin cfg2.N, win2_0.index t = ![0, 0] ∧ win2_1.index t = ![0, 0] ∧ win2_2.index t = ![0, 0] ∧ win2_3.index t = ![0, 0]
    ∧ win2_4.index t = ![0, 0] ∧ win2_5.index t = ![0, 0] ∧ win2_6.index t = ![0, 0] ∧ win2_7.index t = ![0, 0] :=
  (by decide +kernel : ∀ t : Fin grid2.N, _)

/-- The first kernel's first block is the whole array. -/
theorem blk0_0 (c : Dev nD) : stg0_0 V c = V c main_arg0 := by funext y; blk_ext [stg0_0, idx0 t0_0]
/-- The first kernel's second block is the whole array. -/
theorem blk0_1 (c : Dev nD) : stg0_1 V c = V c main_v21 := by funext y; blk_ext [stg0_1, idx0 t0_0]
/-- The first kernel's third block is the whole array. -/
theorem blk0_2 (c : Dev nD) : stg0_2 V c = V c main_arg2 := by funext y; blk_ext [stg0_2, idx0 t0_0]
/-- The second kernel's first block is the whole array. -/
theorem blk2_0 (c : Dev nD) : stg2_0 V c = V c main_v23 := by funext y; blk_ext [stg2_0, idx2 t2_0]
/-- The second kernel's second block is the whole array. -/
theorem blk2_1 (c : Dev nD) : stg2_1 V c = V c main_v22 := by funext y; blk_ext [stg2_1, idx2 t2_0]
/-- The second kernel's third block is the whole array. -/
theorem blk2_2 (c : Dev nD) : stg2_2 V c = V c main_v24 := by funext y; blk_ext [stg2_2, idx2 t2_0]
/-- The second kernel's fourth block is the whole array. -/
theorem blk2_3 (c : Dev nD) : stg2_3 V c = V c main_arg4 := by funext y; blk_ext [stg2_3, idx2 t2_0]
/-- The second kernel's fifth block is the whole array. -/
theorem blk2_4 (c : Dev nD) : stg2_4 V c = V c main_v25 := by funext y; blk_ext [stg2_4, idx2 t2_0]
/-- The second kernel's sixth block is the whole array. -/
theorem blk2_5 (c : Dev nD) : stg2_5 V c = V c main_arg6 := by funext y; blk_ext [stg2_5, idx2 t2_0]
/-- The second kernel's seventh block is the whole array. -/
theorem blk2_6 (c : Dev nD) : stg2_6 V c = V c main_v26 := by funext y; blk_ext [stg2_6, idx2 t2_0]

/-- The first region's result. -/
theorem out0_eq (c : Dev nD) : (dat0 V c).arrAt 3 cfg0.N = tc1Val (F := F) (V c main_arg0) (V c main_v21) (V c main_arg2) := by
  refine (dat0 V c).arrAt_eq_of_after_last 3 t0_0 (by decide +kernel) _ fun j => ?_
  blk_simp
  rw [← blk0_0 V, ← blk0_1 V, ← blk0_2 V]
  rfl

/-- The second region's result. -/
theorem out2_eq (c : Dev nD) : (dat2 V c).arrAt 7 cfg2.N =
    tc2Val (F := F) (V c main_v23) (V c main_v22) (V c main_v24) (V c main_arg4) (V c main_v25) (V c main_arg6) (V c main_v26) := by
  refine (dat2 V c).arrAt_eq_of_after_last 7 t2_0 (by decide +kernel) _ fun j => ?_
  blk_simp
  rw [← blk2_0 V, ← blk2_1 V, ← blk2_2 V, ← blk2_3 V, ← blk2_4 V, ← blk2_5 V, ← blk2_6 V]
  rfl

end Cert.Proof.K

end
-- ==== Proof.Main.lean ====
/- The program's run: @main on each TensorCore — the host's table of sines and cosines, the first kernel, the SparseCore call,
   the reshapes, the second kernel — with what every array holds at its end, at any float values. -/
module

public import proofs.«01_k».proof.Proof.RegVal
public import Idealize.ShloMosaic.Lib.StableHlo.Run

@[expose] public section

noncomputable section

namespace Cert.Proof.K

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

open Idealize.ShloMosaic.StableHlo (seq seqK after held)

/-! ## The host's lines -/

/-- The lines before the first kernel: the table of sines and cosines, padded. -/
def ops1 : List (HloOp τ sig (Elt F)) :=
  [StableHlo.nullary main_v0 (sitofp .f32 (iotaInDim S500 32 0)),
   StableHlo.unary main_v0 main_v1 (broadcastInDim S500x1 ![0] bcast_S500_S500x1_0 : (⟨S500, .f32⟩ : BufTy).Contents (Elt F) → (⟨S500x1, .f32⟩ : BufTy).Contents (Elt F)),
   StableHlo.nullary main_v2 (sitofp .f32 (iotaInDim S128 32 0)),
   StableHlo.nullary main_cst (constant S_ .f32 0x40000000#32),
   StableHlo.unary main_cst main_v3 (broadcastInDim S128 ![] bcast_S_S128 : (⟨S_, .f32⟩ : BufTy).Contents (Elt F) → (⟨S128, .f32⟩ : BufTy).Contents (Elt F)),
   StableHlo.binary main_v3 main_v2 main_v4 (mulf : (⟨S128, .f32⟩ : BufTy).Contents (Elt F) → (⟨S128, .f32⟩ : BufTy).Contents (Elt F) → (⟨S128, .f32⟩ : BufTy).Contents (Elt F)),
   StableHlo.nullary main_cst_0 (constant S_ .f32 0x00000000#32),
   StableHlo.unary main_cst_0 main_v5 (broadcastInDim S128 ![] bcast_S_S128 : (⟨S_, .f32⟩ : BufTy).Contents (Elt F) → (⟨S128, .f32⟩ : BufTy).Contents (Elt F)),
   StableHlo.binary main_v5 main_v4 main_v6 (addf : (⟨S128, .f32⟩ : BufTy).Contents (Elt F) → (⟨S128, .f32⟩ : BufTy).Contents (Elt F) → (⟨S128, .f32⟩ : BufTy).Contents (Elt F)),
   StableHlo.nullary main_cst_1 (constant S_ .f32 0xBD135D8E#32),
   StableHlo.unary main_cst_1 main_v7 (broadcastInDim S128 ![] bcast_S_S128 : (⟨S_, .f32⟩ : BufTy).Contents (Elt F) → (⟨S128, .f32⟩ : BufTy).Contents (Elt F)),
   StableHlo.binary main_v6 main_v7 main_v8 (mulf : (⟨S128, .f32⟩ : BufTy).Contents (Elt F) → (⟨S128, .f32⟩ : BufTy).Contents (Elt F) → (⟨S128, .f32⟩ : BufTy).Contents (Elt F)),
   StableHlo.unary main_v8 main_v9 (Host.exp : (⟨S128, .f32⟩ : BufTy).Contents (Elt F) → (⟨S128, .f32⟩ : BufTy).Contents (Elt F)),
   StableHlo.unary main_v9 main_v10 (broadcastInDim S1x128 ![1] bcast_S128_S1x128_1 : (⟨S128, .f32⟩ : BufTy).Contents (Elt F) → (⟨S1x128, .f32⟩ : BufTy).Contents (Elt F)),
   StableHlo.unary main_v1 main_v11 (broadcastInDim S500x128 ![0, 1] bcast_S500x1_S500x128_0_1 : (⟨S500x1, .f32⟩ : BufTy).Contents (Elt F) → (⟨S500x128, .f32⟩ : BufTy).Contents (Elt F)),
   StableHlo.unary main_v10 main_v12 (broadcastInDim S500x128 ![0, 1] bcast_S1x128_S500x128_0_1 : (⟨S1x128, .f32⟩ : BufTy).Contents (Elt F) → (⟨S500x128, .f32⟩ : BufTy).Contents (Elt F)),
   StableHlo.binary main_v11 main_v12 main_v13 (mulf : (⟨S500x128, .f32⟩ : BufTy).Contents (Elt F) → (⟨S500x128, .f32⟩ : BufTy).Contents (Elt F) → (⟨S500x128, .f32⟩ : BufTy).Contents (Elt F)),
   StableHlo.unary main_v13 main_v14 (Host.sin : (⟨S500x128, .f32⟩ : BufTy).Contents (Elt F) → (⟨S500x128, .f32⟩ : BufTy).Contents (Elt F)),
   StableHlo.unary main_v13 main_v15 (Host.cos : (⟨S500x128, .f32⟩ : BufTy).Contents (Elt F) → (⟨S500x128, .f32⟩ : BufTy).Contents (Elt F)),
   StableHlo.unary main_v14 main_v16 (broadcastInDim S500x128x1 ![0, 1] bcast_S500x128_S500x128x1_0_1 : (⟨S500x128, .f32⟩ : BufTy).Contents (Elt F) → (⟨S500x128x1, .f32⟩ : BufTy).Contents (Elt F)),
   StableHlo.unary main_v15 main_v17 (broadcastInDim S500x128x1 ![0, 1] bcast_S500x128_S500x128x1_0_1 : (⟨S500x128, .f32⟩ : BufTy).Contents (Elt F) → (⟨S500x128x1, .f32⟩ : BufTy).Contents (Elt F)),
   StableHlo.binary main_v16 main_v17 main_v18 ((fun a b => concatenate S500x128x2 2 [⟨S500x128x1, a⟩, ⟨S500x128x1, b⟩] concatenates_S500x128x1_S500x128x1_S500x128x2_d2) : (⟨S500x128x1, .f32⟩ : BufTy).Contents (Elt F) → (⟨S500x128x1, .f32⟩ : BufTy).Contents (Elt F) → (⟨S500x128x2, .f32⟩ : BufTy).Contents (Elt F)),
   StableHlo.reshape main_v18 main_v19 (rfl : (.f32 : EltTy) = .f32) shapeCasts_S500x128x2_S500x256,
   StableHlo.nullary main_cst_2 (constant S_ .f32 0x00000000#32),
   StableHlo.unary main_cst_2 main_v20 (broadcastInDim S12x256 ![] bcast_S_S12x256 : (⟨S_, .f32⟩ : BufTy).Contents (Elt F) → (⟨S12x256, .f32⟩ : BufTy).Contents (Elt F)),
   StableHlo.binary main_v19 main_v20 main_v21 ((fun a b => concatenate S512x256 0 [⟨S500x256, a⟩, ⟨S12x256, b⟩] concatenates_S500x256_S12x256_S512x256_d0) : (⟨S500x256, .f32⟩ : BufTy).Contents (Elt F) → (⟨S12x256, .f32⟩ : BufTy).Contents (Elt F) → (⟨S512x256, .f32⟩ : BufTy).Contents (Elt F))]
/-- The lines between the SparseCore call and the second kernel: the biases' shapes. -/
def ops2 : List (HloOp τ sig (Elt F)) :=
  [StableHlo.reshape main_arg3 main_v24 (rfl : (.f32 : EltTy) = .f32) shapeCasts_S256_S1x256,
   StableHlo.reshape main_arg5 main_v25 (rfl : (.f32 : EltTy) = .f32) shapeCasts_S256_S1x256,
   StableHlo.reshape main_arg7 main_v26 (rfl : (.f32 : EltTy) = .f32) shapeCasts_S1_S1x1]

set_option maxRecDepth 8192 in
/-- @main: host lines, the first kernel, the SparseCore call, host lines, the second kernel. -/
theorem main_eq (d : Dev nD) : main (F := F) d = (seq ops1 >>= fun _ => (Prog.lift (.customCall (SparseCore.inner (Pipeline.entry 0)) ()) >>= fun _ =>
    (sc (F := F)).run d 0 >>= fun _ => (seq ops2 >>= fun _ => Prog.lift (.customCall (SparseCore.inner (Pipeline.entry 1)) ()) >>= fun _ => pure ⟨⟩))) := by
  rw [StableHlo.seq_bind_seqK]
  rw [StableHlo.seq_bind_seqK]
  rfl

set_option maxRecDepth 8192 in
/-- The first host lines touch arrays of the TensorCore only. -/
theorem ops1_sub : (ops1 : List (HloOp τ sig (Elt F))).Forall fun op => op.bufs ⊆ StableHlo.tcRefs τ sig :=
  ⟨StableHlo.nullary_bufs_sub .., StableHlo.unary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub ..⟩
set_option maxRecDepth 8192 in
/-- They ask for no new array. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
/-- The second host lines touch arrays of the TensorCore only. -/
theorem ops2_sub : (ops2 : List (HloOp τ sig (Elt F))).Forall fun op => op.bufs ⊆ StableHlo.tcRefs τ sig :=
  ⟨StableHlo.reshape_bufs_sub .., StableHlo.reshape_bufs_sub .., StableHlo.reshape_bufs_sub ..⟩
/-- They ask for no new array. -/
theorem ops2_fresh : (ops2 : List (HloOp τ sig (Elt F))).Forall fun op => op.fresh = ∅ := ⟨rfl, rfl, rfl⟩

/-! ## What the arrays hold from line to line -/

variable (m : (ℓ : Loc nD τ sig) → Buf (Elt F) ℓ)

/-- At the launch; before the first kernel; after it; after the SparseCore call; before the second kernel; at the end. -/
def A0 (d : Dev nD) : Valuation τ sig (Elt F) := fun b => m (d, b)
def A1 (d : Dev nD) : Valuation τ sig (Elt F) := after ops1 (A0 m d)
abbrev W1 : Vals F := fun c b => A1 m c b
def A2 (d : Dev nD) : Valuation τ sig (Elt F) := Function.update (A1 m d) (Proc.devRef .tc main_v22) ((dat0 (W1 m) d).arrAt 3 cfg0.N)
def A3 (d : Dev nD) : Valuation τ sig (Elt F) := Function.update (A2 m d) (Proc.devRef .tc main_v23) (counts (F := F) (edges m d))
def A4 (d : Dev nD) : Valuation τ sig (Elt F) := after ops2 (A3 m d)
abbrev W4 : Vals F := fun c b => A4 m c b
def A5 (d : Dev nD) : Valuation τ sig (Elt F) := Function.update (A4 m d) (Proc.devRef .tc main_v27) ((dat2 (W4 m) d).arrAt 7 cfg2.N)

/-- After the first kernel its result holds what the kernel leaves. -/
theorem A2_out (d : Dev nD) : A2 m d main_v22 = (dat0 (W1 m) d).arrAt 3 cfg0.N := Function.update_self ..
/-- The first kernel changes nothing else. -/
theorem A2_ne (d : Dev nD) (b : Ref sig .tc) (h : b ≠ main_v22) : A2 m d b = A1 m d b :=
  Function.update_of_ne (fun e => h (Proc.devRef_injective _ e)) ..
/-- After the SparseCore call its result holds the counts. -/
theorem A3_out (d : Dev nD) : A3 m d main_v23 = counts (F := F) (edges m d) := Function.update_self ..
/-- The SparseCore call changes nothing else. -/
theorem A3_ne (d : Dev nD) (b : Ref sig .tc) (h : b ≠ main_v23) : A3 m d b = A2 m d b :=
  Function.update_of_ne (fun e => h (Proc.devRef_injective _ e)) ..
/-- After the second kernel its result holds what the kernel leaves. -/
theorem A5_out (d : Dev nD) : A5 m d main_v27 = (dat2 (W4 m) d).arrAt 7 cfg2.N := Function.update_self ..
/-- The second kernel changes nothing else. -/
theorem A5_ne (d : Dev nD) (b : Ref sig .tc) (h : b ≠ main_v27) : A5 m d b = A4 m d b :=
  Function.update_of_ne (fun e => h (Proc.devRef_injective _ e)) ..

/-- The edge list is as the launch left it until the SparseCore call. -/
theorem A2_edges (d : Dev nD) : A2 m d main_arg1 = edges m d := by
  rw [A2_ne _ _ _ (by decide)]
  unfold A1 ops1
  after_results_simp
  rfl

/-! ## The regions as steps of @main -/

/-- What the launch deals a core for the two kernels' staging. -/
abbrev Gh (p : Fin 2) (d : Dev nD) : sProp 𝕄 :=
  iprop(Pipeline.cellsGhost (Pipeline.pin (pcfgs (F := F)) adm) EP p d ∗ Pipeline.toksInit (Pipeline.pin (pcfgs (F := F)) adm) EP p d)

abbrev debts (d : Dev nD) (n : ℕ) : sProp 𝕄 :=
  iprop(∃ W, ⌜(K F).WBelow (SparseCore.T d) W (8 * n)⌝ ∗ owes (SparseCore.T d) ((K F).Otc d n) W)

/-- A kernel's call in @main is its call in the kernels' own signature, lifted. -/
theorem entry_lift (p : Fin 2) :
    SparseCore.liftProg (Q := 1) (.op (.customCall (Pipeline.entry p) ()) fun _ => .ret PUnit.unit : Prog (TpuEff nD τ sig (Elt F) (ΛP F) .tc) PUnit)
      = (Prog.lift (.customCall (SparseCore.inner (Pipeline.entry p)) ()) : Prog (TpuEff nD τ sig (Elt F) (SparseCore.Sig (ΛP F) 1) .tc) PUnit) := rfl

/-- A kernel's call in @main: from the region's first assertion to its last. -/
theorem wp_entry (pd : (p : Fin 2) → (c : Dev nD) → Dat τ (Elt F) (HIx 1) ℕ UU ℕ (Pipeline.pin (pcfgs (F := F)) adm p) c) (p : Fin 2)
    (R : Pipeline.RegionSeg (pcfgs (F := F)) adm pd none defs₀ Variants.none (K F).L (K F).lev p) (d : Dev nD) (Q : PUnit → sProp 𝕄) :
    iprop((iprop(boundary (SparseCore.T d) ∗ R.post d) -∗ Q ⟨⟩)
        ∗ boundary (SparseCore.T d) ∗ R.pre d ∗ levAts (K F).L (K F).lev ∗ Gh (F := F) p d)
      ⊢ wp frame (wpE ((K F).defs (D F)) 𝒱 (SparseCore.T d) none) Set.univ (Prog.lift (.customCall (SparseCore.inner (Pipeline.entry p)) ())) Q := by
  rw [← entry_lift]
  refine BI.Entails.trans ?_ ((K F).wp_liftProg (D F) 𝒱 (SparseCore.T d) Set.univ none _ Q)
  have h := Pipeline.RegionSeg.wp (pcfgs (F := F)) adm pd none cellOf_inj EP defs₀ Variants.none (K F).L (K F).lev
    R d none (fun u hu => nomatch hu) (fun _ => .ret PUnit.unit) Q
  rw [wp_ret] at h
  refine BIBase.Entails.trans ?_ h
  iintro ⟨Hk, Hb, Hu, HL, Hg⟩
  isplitl [Hk]
  · iintro H
    imodintro
    iapply Hk
    iexact H
  isplitl [Hb]; · iexact Hb
  isplitl [Hu]; · iexact Hu
  isplitl [HL]; · iexact HL
  iexact Hg

abbrev TCp (F : FTy → Type) [FloatOps F] [Named F] : Type 1 := Prog (TpuEff nD τ sig (Elt F) (SparseCore.Sig (ΛP F) 1) .tc) PUnit
/-- Every array of the TensorCore's, whole, at a valuation. -/
abbrev H (d : Dev nD) (V : Valuation τ sig (Elt F)) : sProp 𝕄 := held (SparseCore.T d) (Pipeline.ucRefs τ sig) V
abbrev wpT (d : Dev nD) (p : TCp F) (Q : PUnit → sProp 𝕄) : sProp 𝕄 :=
  wp frame (wpE ((K F).defs (D F)) 𝒱 (SparseCore.T d) none) Set.univ p Q

/-- The first kernel's call: the arrays go from `A1` to `A2`. -/
theorem step0 (κ : GSem nD τ sig → ℕ) (d : Dev nD) (k : PUnit → TCp F) (Q : PUnit → sProp 𝕄) :
    iprop((K F).ctx EH (P m) κ ∗ (K F).tcSt EH d 0 ∗ boundary (SparseCore.T d) ∗ H d (A1 m d) ∗ Gh (F := F) 0 d
        ∗ (iprop((K F).tcSt EH d 0 ∗ boundary (SparseCore.T d) ∗ H d (A2 m d)) -∗ wpT d (k ⟨⟩) Q))
      ⊢ wpT d (Prog.lift (.customCall (SparseCore.inner (Pipeline.entry 0)) ()) >>= k) Q := by
  unfold wpT H
  rw [wp_bind, ← Pipeline.unscopedBufs_held, ← Pipeline.unscopedBufs_held]
  unfold SparseCore.Cfg.tcSt
  have h := wp_entry (pdats (W1 m) (W4 m)) 0
    (reg0 (W1 m) (W4 m) (fun c b => A2 m c b) (fun _ => iprop(emp)) (A2_out m) (A2_ne m)) d fun x => wp frame (wpE ((K F).defs (D F)) 𝒱 (SparseCore.T d) none) Set.univ (k x) Q
  rw [show (reg0 (W1 m) (W4 m) (fun c b => A2 m c b) (fun _ => iprop(emp)) (A2_out m) (A2_ne m)).pre d
        = iprop(unscopedBufs d (fun b => A1 m d b) ∗ emp ∗ debts (F := F) d 0) from rfl,
    show (reg0 (W1 m) (W4 m) (fun c b => A2 m c b) (fun _ => iprop(emp)) (A2_out m) (A2_ne m)).post d
        = iprop(unscopedBufs d (fun b => A2 m d b) ∗ emp ∗ debts (F := F) d 0) from rfl] at h
  refine BIBase.Entails.trans ?_ h
  iintro ⟨#Hctx, ⟨HO, Hst⟩, Hb, Hu, Hg, Hk⟩
  ihave HL := (SparseCore.Cfg.ctx_levAts κ) $$ Hctx
  isplitl [Hk Hst]
  · iintro ⟨Hb, Hu, -, HO⟩
    iapply Hk
    isplitl [HO Hst]
    · isplitl [HO]; · iexact HO
      iexact Hst
    isplitl [Hb]; · iexact Hb
    iexact Hu
  isplitl [Hb]; · iexact Hb
  isplitl [Hu HO]
  · isplitl [Hu]; · iexact Hu
    isplitr; · iempintro
    iexact HO
  isplitl [HL]; · iexact HL
  iexact Hg

/-- The second kernel's call: the arrays go from `A4` to `A5`. -/
theorem step2 (κ : GSem nD τ sig → ℕ) (d : Dev nD) (k : PUnit → TCp F) (Q : PUnit → sProp 𝕄) :
    iprop((K F).ctx EH (P m) κ ∗ (K F).tcSt EH d 1 ∗ boundary (SparseCore.T d) ∗ H d (A4 m d) ∗ Gh (F := F) 1 d
        ∗ (iprop((K F).tcSt EH d 1 ∗ boundary (SparseCore.T d) ∗ H d (A5 m d)) -∗ wpT d (k ⟨⟩) Q))
      ⊢ wpT d (Prog.lift (.customCall (SparseCore.inner (Pipeline.entry 1)) ()) >>= k) Q := by
  unfold wpT H
  rw [wp_bind, ← Pipeline.unscopedBufs_held, ← Pipeline.unscopedBufs_held]
  unfold SparseCore.Cfg.tcSt
  have h := wp_entry (pdats (W1 m) (W4 m)) 1
    (reg2 (W1 m) (W4 m) (fun c b => A5 m c b) (fun _ => iprop(emp)) (A5_out m) (A5_ne m)) d fun x => wp frame (wpE ((K F).defs (D F)) 𝒱 (SparseCore.T d) none) Set.univ (k x) Q
  rw [show (reg2 (W1 m) (W4 m) (fun c b => A5 m c b) (fun _ => iprop(emp)) (A5_out m) (A5_ne m)).pre d
        = iprop(unscopedBufs d (fun b => A4 m d b) ∗ emp ∗ debts (F := F) d 1) from rfl,
    show (reg2 (W1 m) (W4 m) (fun c b => A5 m c b) (fun _ => iprop(emp)) (A5_out m) (A5_ne m)).post d
        = iprop(unscopedBufs d (fun b => A5 m d b) ∗ emp ∗ debts (F := F) d 1) from rfl] at h
  refine BIBase.Entails.trans ?_ h
  iintro ⟨#Hctx, ⟨HO, Hst⟩, Hb, Hu, Hg, Hk⟩
  ihave HL := (SparseCore.Cfg.ctx_levAts κ) $$ Hctx
  isplitl [Hk Hst]
  · iintro ⟨Hb, Hu, -, HO⟩
    iapply Hk
    isplitl [HO Hst]
    · isplitl [HO]; · iexact HO
      iexact Hst
    isplitl [Hb]; · iexact Hb
    iexact Hu
  isplitl [Hb]; · iexact Hb
  isplitl [Hu HO]
  · isplitl [Hu]; · iexact Hu
    isplitr; · iempintro
    iexact HO
  isplitl [HL]; · iexact HL
  iexact Hg

/-- The two arrays the SparseCore call works on. -/
def callBufs : Finset (DevRef τ sig) := {Proc.devRef .tc main_arg1, Proc.devRef .tc main_v23}

/-- The two arrays are the TensorCore's. -/
theorem callBufs_sub : callBufs ⊆ Pipeline.ucRefs τ sig := by decide +kernel

/-- Holding the two arrays, one by one. -/
theorem held_call (d : Dev nD) (V : Valuation τ sig (Elt F)) :
    (held (SparseCore.T d) callBufs V : sProp 𝕄) = iprop((eLoc d ↦{fullShare} V main_arg1) ∗ cLoc d ↦{fullShare} V main_v23) := by
  unfold held callBufs
  rw [SparseCore.bigSep_insert' (by decide), bigSep_singleton]

/-- The SparseCore call leaves the other arrays alone. -/
theorem rest_eq (d : Dev nD) :
    (held (SparseCore.T d) (Pipeline.ucRefs τ sig \ callBufs) (A2 m d) : sProp 𝕄) = held (SparseCore.T d) (Pipeline.ucRefs τ sig \ callBufs) (A3 m d) := by
  refine StableHlo.held_congr _ fun b hb => ?_
  refine (Function.update_of_ne (fun e => ?_) ..).symm
  subst e
  exact (Finset.mem_sdiff.1 hb).2 (by decide)

/-- The SparseCore call: the arrays go from `A2` to `A3`. -/
theorem step1 (κ : GSem nD τ sig → ℕ) (d : Dev nD) (k : PUnit → TCp F) (Q : PUnit → sProp 𝕄) :
    iprop((K F).ctx EH (P m) κ ∗ (K F).tcSt EH d 0 ∗ H d (A2 m d)
        ∗ (iprop((K F).tcSt EH d 1 ∗ H d (A3 m d)) -∗ wpT d (k ⟨⟩) Q))
      ⊢ wpT d (((K F).run d 0) >>= k) Q := by
  unfold wpT H
  rw [wp_bind, StableHlo.held_sub_split _ callBufs_sub (A2 m d), StableHlo.held_sub_split _ callBufs_sub (A3 m d), held_call, held_call,
    rest_eq, A2_edges, A3_out, show A3 m d main_arg1 = edges m d from (A3_ne m d main_arg1 (by decide)).trans (A2_edges m d)]
  iintro ⟨#Hctx, Hst, ⟨⟨He, Hc⟩, Hr⟩, Hk⟩
  ihave H := (st_of m d) $$ [He Hc]
  · isplitl [He]; · iexact He
    iexists _; iexact Hc
  icases H with ⟨He, Hs⟩
  iapply ((K F).wp_run (D F) 𝒱 (EH := EH) (P := P m) κ d 0) $$ [Hst Hs He Hr Hk]
  isplitr; · iexact Hctx
  isplitl [Hst]; · iexact Hst
  isplitl [Hs]; · iexact Hs
  iintro ⟨Hst, Hdn⟩
  ihave H := (dn_of m d) $$ [He Hdn]
  · isplitl [He] <;> iassumption
  iapply Hk
  isplitl [Hst]; · iexact Hst
  isplitl [H]; · iexact H
  iexact Hr

end Cert.Proof.K

end
-- ==== Proof.Launch.lean ====
/- The launch: the certificate's ghost state dealt out, @main run on every TensorCore, and what the memory holds at the end. -/
module

public import proofs.«01_k».proof.Proof.Main

@[expose] public section

noncomputable section

namespace Cert.Proof.K

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (seq after held)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The launch element of the certificate's ghost state -/

/-- The handshakes' cells and tokens, the staging cells and tokens of both kernels, nothing counted. -/
def u₀ (F : FTy → Type) [FloatOps F] [Named F] : UU :=
  (initOf (K F).hsCells (K F).hsToks,
    (initOf (Pipeline.cells (Pipeline.pin (pcfgs (F := F)) adm) cellOf_inj) (Pipeline.launchToks (Pipeline.pin (pcfgs (F := F)) adm) cellOf_inj), 1))

abbrev GG (d : Dev nD) : sProp 𝕄 := iprop(Gh (F := F) 0 d ∗ Gh (F := F) 1 d)

/-- Nothing, for every index, is nothing. -/
theorem bigSep_nothing {I : Type} (s : Finset I) : (bigSep s fun _ => iprop(emp)) = (iprop(emp) : sProp 𝕄) := bigSep_emp_const s

/-- Two pairs, regrouped by their first and second parts. -/
theorem regroup (A B C E : sProp 𝕄) : iprop((A ∗ B) ∗ C ∗ E) ⊢ iprop((A ∗ C) ∗ B ∗ E) := by
  iintro ⟨⟨H1, H2⟩, H3, H4⟩
  isplitl [H1 H3]
  · isplitl [H1] <;> iassumption
  · isplitl [H2] <;> iassumption

/-- The two kernels' ghost state, device by device. -/
theorem ghost_split :
    iprop((bigSep Finset.univ fun c : Dev nD => bigSep Finset.univ fun p : Fin 2 => Pipeline.cellsGhost (Pipeline.pin (pcfgs (F := F)) adm) EP p c)
        ∗ (bigSep Finset.univ fun c : Dev nD => bigSep Finset.univ fun p : Fin 2 => (Pipeline.toksInit (Pipeline.pin (pcfgs (F := F)) adm) EP p c : sProp 𝕄)))
      ⊢ bigSep Finset.univ fun d : Dev nD => GG (F := F) d := by
  rw [← bigSep_sep']
  refine bigSep_mono fun d _ => ?_
  rw [bigSep_univ_two, bigSep_univ_two]
  exact regroup _ _ _ _

/-- The launch element gives the handshakes' state and every device's ghost state. -/
theorem hu₀ : (ownU (u₀ F) : sProp 𝕄)
    ⊢ |={Set.univ}=> iprop(BI.own (EH (initOf (K F).hsCells (K F).hsToks)) ∗ (bigSep Finset.univ fun d : Dev nD => GG (F := F) d)
        ∗ bigSep Finset.univ fun thr : Thread nD τ => bigSep Finset.univ fun q : Fin 1 => (P m).x q thr) := by
  unfold u₀
  iintro Hu
  ihave H := (ownU_pair (initOf (K F).hsCells (K F).hsToks) _) $$ Hu
  icases H with ⟨HH, HR⟩
  ihave HE := (show BI.own (embR (initOf (Pipeline.cells (Pipeline.pin (pcfgs (F := F)) adm) cellOf_inj) (Pipeline.launchToks (Pipeline.pin (pcfgs (F := F)) adm) cellOf_inj), (1 : Counters)))
      ⊢ (BI.own (EP (initOf (Pipeline.cells (Pipeline.pin (pcfgs (F := F)) adm) cellOf_inj) (Pipeline.launchToks (Pipeline.pin (pcfgs (F := F)) adm) cellOf_inj))) : sProp 𝕄) from .rfl) $$ HR
  ihave HF := (Pipeline.fund_ghost (Pipeline.pin (pcfgs (F := F)) adm) EP cellOf_inj) $$ HE
  imod HF
  ihave HG := (ghost_split (F := F)) $$ HF
  imodintro
  isplitl [HH]; · iexact HH
  isplitl [HG]; · iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## @main on the TensorCore -/

abbrev FIN (d : Dev nD) : sProp 𝕄 := H d (A5 m d)

/-- A run of host lines takes the arrays from `V` to what the lines leave. -/
theorem stepSeq (d : Dev nD) (ops : List (HloOp τ sig (Elt F))) (hsub : ops.Forall fun op => op.bufs ⊆ StableHlo.tcRefs τ sig)
    (hfresh : ops.Forall fun op => op.fresh = ∅) (V : Valuation τ sig (Elt F)) (k : PUnit → TCp F) (Q : PUnit → sProp 𝕄) :
    iprop((boundary (SparseCore.T d) ∗ H d V) ∗ (iprop(boundary (SparseCore.T d) ∗ H d (after ops V)) -∗ wpT d (k ⟨⟩) Q)) ⊢ wpT d (seq ops >>= k) Q := by
  unfold wpT H
  iintro ⟨Hb, Hk⟩
  iapply (StableHlo.wp_seq 𝒱 none Set.univ d (Pipeline.ucRefs τ sig) k ops
    (fun op h => Pipeline.sub_ucRefs op ((List.forall_iff_forall_mem.mp hsub) op h))
    (fun op h => (List.forall_iff_forall_mem.mp hfresh) op h) V) $$ Hb
  iexact Hk

/-- @main on device `d`'s TensorCore: every array goes from the launch's contents to `A5`. -/
theorem hmain (κ : GSem nD τ sig → ℕ) (d : Dev nD) :
    iprop((K F).ctx EH (P m) κ ∗ (K F).tcSt EH d 0 ∗ (K F).tcRes m ρ d ∗ GG (F := F) d)
      ⊢ wp frame (wpE ((K F).defs (D F)) 𝒱 (SparseCore.T d) none) Set.univ (main d)
          fun _ => iprop((K F).tcSt EH d 1 ∗ FIN m d ∗ (K F).tcEnd d) := by
  unfold SparseCore.Cfg.tcRes SparseCore.Cfg.tcEnd
  rw [main_eq, show (unscopedBufs d (fun b => m ((SparseCore.T d).loc b)) : sProp 𝕄) = H d (A0 m d) from Pipeline.unscopedBufs_held d (A0 m d)]
  iintro ⟨#Hctx, Hst, ⟨Hb, Hu, Hts, -⟩, Hg0, Hg1⟩
  iapply (stepSeq d ops1 ops1_sub ops1_fresh _ _ _)
  isplitl [Hb Hu]
  · isplitl [Hb] <;> iassumption
  iintro ⟨Hb, Hu⟩
  iapply (step0 m κ d _ _) $$ [Hst Hb Hu Hg0 Hg1 Hts]
  isplitr; · iexact Hctx
  isplitl [Hst]; · iexact Hst
  isplitl [Hb]; · iexact Hb
  isplitl [Hu]; · iexact Hu
  isplitl [Hg0]; · iexact Hg0
  iintro ⟨Hst, Hb, Hu⟩
  iapply (step1 m κ d _ _) $$ [Hst Hb Hu Hg1 Hts]
  isplitr; · iexact Hctx
  isplitl [Hst]; · iexact Hst
  isplitl [Hu]; · iexact Hu
  iintro ⟨Hst, Hu⟩
  iapply (stepSeq d ops2 ops2_sub ops2_fresh _ _ _)
  isplitl [Hb Hu]
  · isplitl [Hb] <;> iassumption
  iintro ⟨Hb, Hu⟩
  iapply (step2 m κ d _ _) $$ [Hst Hb Hu Hg1 Hts]
  isplitr; · iexact Hctx
  isplitl [Hst]; · iexact Hst
  isplitl [Hb]; · iexact Hb
  isplitl [Hu]; · iexact Hu
  isplitl [Hg1]; · iexact Hg1
  iintro ⟨Hst, Hb, Hu⟩
  unfold wpT
  ihave Hr := (show iprop((K F).tcSt EH d 1 ∗ FIN m d ∗ boundary (SparseCore.T d) ∗ (K F).tcSems0 d)
      ⊢ wp frame (wpE ((K F).defs (D F)) 𝒱 (SparseCore.T d) none) Set.univ (pure PUnit.unit : TCp F)
          fun _ => iprop((K F).tcSt EH d 1 ∗ FIN m d ∗ boundary (SparseCore.T d) ∗ (K F).tcSems0 d) from by
    rw [wp_pure]; exact fupd_intro) $$ [Hst Hb Hu Hts]
  · isplitl [Hst]; · iexact Hst
    isplitl [Hu]; · iexact Hu
    isplitl [Hb] <;> iassumption
  iexact Hr

def fq (d : Dev nD) (s' : Phys nD τ sig (Elt F)) : Prop := ∀ b ∈ Pipeline.ucRefs τ sig, s'.mem.mem (d, b) = A5 m d b

set_option maxRecDepth 16384 in
/-- At the end every array of the TensorCore holds what `A5` says. -/
theorem hfin (d : Dev nD) (s' : Phys nD τ sig (Elt F)) : iprop(FIN m d ∗ SI s') ⊢ (⌜fq m d s'⌝ : sProp 𝕄) := by
  refine (Laws.forall_intro (Φ := fun b => iprop(⌜b ∈ Pipeline.ucRefs τ sig → s'.mem.mem (d, b) = A5 m d b⌝)) fun b => ?_).trans Laws.pure_forall.2
  by_cases hb : b ∈ Pipeline.ucRefs τ sig
  · refine (sep_mono (bigSep_elim (Φ := fun b => ((d, b) ↦{fullShare} A5 m d b : sProp 𝕄)) hb) .rfl).trans ?_
    iintro ⟨Hp, HSI⟩
    ihave H := (SI_pointsTo_agree (st := s') (ℓ := (d, b)) (I := Finset.univ) (q := fullShare) (f := A5 m d b)) $$ [HSI Hp]
    · isplitl [HSI] <;> iassumption
    icases H with %h
    ipureintro; exact fun _ => funext fun i => h i (Finset.mem_univ i)
  · iintro -
    ipureintro; exact fun h => absurd h hb

/-! ## The program's run -/

def QC : PUnit × MemSt nD τ sig (Elt F) → Prop :=
  fun r => (∀ d : Dev nD, ∀ b ∈ Pipeline.ucRefs τ sig, r.2.mem (d, b) = A5 m d b) ∧ r.2.sem = fun _ => 0

/-- Every weakly fair execution of the kernel ends with the arrays at `A5` and every semaphore at zero, where the edges' ends are nodes. -/
theorem run_main [∀ e, Nonempty (Elt F e)] (hE : EdgesOK m) :
    θ_run (Cert.KernelIdeal.defs (F := F)) (Cert.KernelIdeal.threads (F := F)) ⟨m, fun _ => 0, ρ⟩ (QC m) :=
  SparseCore.Cfg.θ_run_sc_quiescent (K := K F) (D := D F) (𝒱 := 𝒱) (EH := EH) (P := P m) (A := ∅) scFacts v₀
    (fun q hq => match q with | 0 => nomatch hq)
    (fun q _ => match q with | 0 => tileObl m scFacts hE)
    (fun q _ => match q with | 0 => SparseCore.Cfg.VecSplit.of_plain (vecSplit m))
    m ρ main (fun d => GG (F := F) d) (FIN m) (u₀ F) (sep_elim_left.trans (hu₀ m)) (hmain m ρ) (fq m) (hfin m) (QC m) (fun _ h hz => ⟨h, hz⟩)

end Cert.Proof.K

end
-- ==== Proof.Same.lean ====
/- The kernel as printed is the idealized kernel read at machine words, its one named constant the printed word: the two
   programs are equal, so one run is both frames'. -/
module

public import proofs.«01_k».proof.Defs
public import proofs.«01_k».proof.Proof.Gen.Kernel
public import proofs.«01_k».proof.Proof.Gen.KernelIdeal

@[expose] public section

noncomputable section

namespace Cert.Proof.K

open Idealize.ShloMosaic

attribute [local instance] Cert.Kernel.Gen.facts Cert.KernelIdeal.Gen.facts

/-- A named constant read as its printed word. -/
abbrev namedBits : Named Bits where
  named _ _ {φ} bits := FloatOps.ofBits φ bits

attribute [local instance] namedBits

/-- The first kernel's body. -/
theorem same0 : Cert.Kernel.cc0__tc1_body (F := Bits) = Cert.KernelIdeal.cc0__tc1_body (F := Bits) := rfl
/-- The SparseCore kernel's body. -/
theorem same1 : Cert.Kernel.cc1__sc_edge_counts_body (F := Bits) = Cert.KernelIdeal.cc1__sc_edge_counts_body (F := Bits) := rfl
/-- The second kernel's body, its named constant among its lines. -/
theorem same2 : Cert.Kernel.cc2__tc2_body (F := Bits) = Cert.KernelIdeal.cc2__tc2_body (F := Bits) := rfl

/-- The first kernel is the same program in both. -/
theorem tab0 (t s) : Cert.Kernel.defs₀ (F := Bits) .tc 0 (t, s) = Cert.KernelIdeal.defs₀ (F := Bits) .tc 0 (t, s) := by
  show Cert.Kernel.cc0__tc1_body (F := Bits) _ _ _ _ _ _ _ _ = _
  rw [same0]; rfl
/-- The second kernel is the same program in both. -/
theorem tab2 (t s) : Cert.Kernel.defs₀ (F := Bits) .tc 2 (t, s) = Cert.KernelIdeal.defs₀ (F := Bits) .tc 2 (t, s) := by
  show Cert.Kernel.cc2__tc2_body (F := Bits) _ _ _ _ _ _ _ _ _ _ _ _ _ _ _ _ = _
  rw [same2]; rfl
/-- A tile's entry in the printed kernel's table. -/
theorem tabK (c s a) : Cert.Kernel.defs₀ (F := Bits) (.scVector c s) 1 a
    = SparseCore.onTile Cert.Kernel.Facts₀.hcore1 Cert.Kernel.Facts₀.hsub1 (fun c s => Cert.Kernel.cc1__sc_edge_counts_body (F := Bits) (fun | 0 => c | 1 => s | ⟨_ + 2, h⟩ => absurd h (Nat.not_lt.2 (Nat.le_add_left _ _)))
      (Memref.whole Cert.Kernel.main_arg1_scv) (Memref.isWhole_whole _) (Memref.whole Cert.Kernel.main_v23_scv) (Memref.isWhole_whole _) (Memref.whole Cert.Kernel.cc1_scratch0) (Memref.isWhole_whole _)
      (Memref.whole Cert.Kernel.cc1_scratch1) (Memref.isWhole_whole _) (Memref.whole Cert.Kernel.cc1_scratch2) (Memref.isWhole_whole _) Cert.Kernel.cc1_scoped0 Cert.Kernel.cc1_scoped1 Cert.Kernel.cc1_scoped2) ⟨⟩ c s := rfl
/-- A tile's entry in the idealized kernel's table. -/
theorem tabI (c s a) : Cert.KernelIdeal.defs₀ (F := Bits) (.scVector c s) 1 a
    = SparseCore.onTile Cert.KernelIdeal.Facts₀.hcore1 Cert.KernelIdeal.Facts₀.hsub1 (fun c s => Cert.KernelIdeal.cc1__sc_edge_counts_body (F := Bits) (fun | 0 => c | 1 => s | ⟨_ + 2, h⟩ => absurd h (Nat.not_lt.2 (Nat.le_add_left _ _)))
      (Memref.whole Cert.KernelIdeal.main_arg1_scv) (Memref.isWhole_whole _) (Memref.whole Cert.KernelIdeal.main_v23_scv) (Memref.isWhole_whole _) (Memref.whole Cert.KernelIdeal.cc1_scratch0) (Memref.isWhole_whole _)
      (Memref.whole Cert.KernelIdeal.cc1_scratch1) (Memref.isWhole_whole _) (Memref.whole Cert.KernelIdeal.cc1_scratch2) (Memref.isWhole_whole _) Cert.KernelIdeal.cc1_scoped0 Cert.KernelIdeal.cc1_scoped1 Cert.KernelIdeal.cc1_scoped2) ⟨⟩ c s := rfl
/-- A tile's entry is the same program in both. -/
theorem tab1 (c s a) : Cert.Kernel.defs₀ (F := Bits) (.scVector c s) 1 a = Cert.KernelIdeal.defs₀ (F := Bits) (.scVector c s) 1 a := by
  rw [tabK, tabI, same1]
  rfl

/-- The TensorCore has no entry of the SparseCore call, in either table. -/
theorem o1 (a) : Cert.Kernel.defs₀ (F := Bits) .tc 1 a = Cert.KernelIdeal.defs₀ (F := Bits) .tc 1 a := rfl
/-- A tile has no entry of the first kernel, in either table. -/
theorem o2 (c s) (a) : Cert.Kernel.defs₀ (F := Bits) (.scVector c s) 0 a = Cert.KernelIdeal.defs₀ (F := Bits) (.scVector c s) 0 a := rfl
/-- A tile has no entry of the second kernel, in either table. -/
theorem o3 (c s) (a) : Cert.Kernel.defs₀ (F := Bits) (.scVector c s) 2 a = Cert.KernelIdeal.defs₀ (F := Bits) (.scVector c s) 2 a := rfl
/-- A sequencer has no entry of the first kernel, in either table. -/
theorem o4 (c) (a) : Cert.Kernel.defs₀ (F := Bits) (.scScalar c) 0 a = Cert.KernelIdeal.defs₀ (F := Bits) (.scScalar c) 0 a := rfl
/-- A sequencer has no entry of the SparseCore call, in either table. -/
theorem o5 (c) (a) : Cert.Kernel.defs₀ (F := Bits) (.scScalar c) 1 a = Cert.KernelIdeal.defs₀ (F := Bits) (.scScalar c) 1 a := rfl
/-- A sequencer has no entry of the second kernel, in either table. -/
theorem o6 (c) (a) : Cert.Kernel.defs₀ (F := Bits) (.scScalar c) 2 a = Cert.KernelIdeal.defs₀ (F := Bits) (.scScalar c) 2 a := rfl

/-- The kernels' body tables are equal. -/
theorem tab : Cert.Kernel.defs₀ (F := Bits) = Cert.KernelIdeal.defs₀ (F := Bits) := by
  funext pr ℓ a
  match pr, ℓ, a with
  | .tc, 0, (t, s) => exact tab0 t s
  | .tc, 1, a => exact o1 a
  | .tc, 2, (t, s) => exact tab2 t s
  | .scVector c s, 0, a => exact o2 c s a
  | .scVector c s, 1, a => exact tab1 c s a
  | .scVector c s, 2, a => exact o3 c s a
  | .scScalar c, 0, a => exact o4 c a
  | .scScalar c, 1, a => exact o5 c a
  | .scScalar c, 2, a => exact o6 c a

/-- So are the programs' own tables, -/
theorem defs_same : Cert.Kernel.defs (F := Bits) = Cert.KernelIdeal.defs (F := Bits) :=
  congrArg (fun D => (Cert.KernelIdeal.sc (F := Bits)).defs (Pipeline.defs (Cert.KernelIdeal.pcfgs (F := Bits)) D)) tab

/-- and what each thread runs. -/
theorem threads_same : Cert.Kernel.threads (F := Bits) = Cert.KernelIdeal.threads (F := Bits) := rfl

end Cert.Proof.K

end
-- ==== Proof.Frames.lean ====
/- The three frames and the ledger's entry: the run of `Launch.lean` with the values dropped, at each float instance. -/
module

public import proofs.«01_k».proof.Defs
public import proofs.«01_k».proof.Proof.Launch
public import proofs.«01_k».proof.Proof.Same
public import proofs.«01_k».proof.Proof.Gen.KernelIdeal
public import proofs.«01_k».proof.Proof.Gen.ReferenceIdeal.Run
public import proofs.«01_k».proof.Proof.Gen.Pre_in_range
public import Idealize.ShloMosaic.Lib.ReduceAll

@[expose] public section

noncomputable section

namespace Cert.Proof.K

open Cert.KernelIdeal Cert.KernelIdeal.Gen

open Idealize.ShloMosaic Idealize.ShloMosaic.TcCoe
open Idealize.SL.Sem
open Idealize.ShloMosaic.StableHlo (seq after held)

section Args

variable {F : FTy → Type} [FloatOps F] [Named F] (m : (ℓ : Loc nD τ sig) → Buf (Elt F) ℓ)

/-- An array no host line, kernel or SparseCore call writes is at the end as at the launch. -/
theorem A5_arg (d : Dev nD) (b : Ref sig .tc) (h1 : A1 m d b = A0 m d b) (h2 : A4 m d b = A3 m d b) (n22 : b ≠ main_v22) (n23 : b ≠ main_v23)
    (n27 : b ≠ main_v27) : A5 m d b = m ((d.tc : Thread nD τ).loc b) :=
  (A5_ne m d b n27).trans (h2.trans ((A3_ne m d b n23).trans ((A2_ne m d b n22).trans h1)))

/-- The arguments end as they began. -/
theorem args_kept (d : Dev nD) {mem : (ℓ : Loc nD τ sig) → Buf (Elt F) ℓ} (h : ∀ b ∈ Pipeline.ucRefs τ sig, mem (d, b) = A5 m d b) :
    mem ((d.tc : Thread nD τ).loc main_arg0) = m ((d.tc : Thread nD τ).loc main_arg0)
      ∧ mem ((d.tc : Thread nD τ).loc main_arg1) = m ((d.tc : Thread nD τ).loc main_arg1)
      ∧ mem ((d.tc : Thread nD τ).loc main_arg2) = m ((d.tc : Thread nD τ).loc main_arg2)
      ∧ mem ((d.tc : Thread nD τ).loc main_arg3) = m ((d.tc : Thread nD τ).loc main_arg3)
      ∧ mem ((d.tc : Thread nD τ).loc main_arg4) = m ((d.tc : Thread nD τ).loc main_arg4)
      ∧ mem ((d.tc : Thread nD τ).loc main_arg5) = m ((d.tc : Thread nD τ).loc main_arg5)
      ∧ mem ((d.tc : Thread nD τ).loc main_arg6) = m ((d.tc : Thread nD τ).loc main_arg6)
      ∧ mem ((d.tc : Thread nD τ).loc main_arg7) = m ((d.tc : Thread nD τ).loc main_arg7) := by
  refine ⟨?_, ?_, ?_, ?_, ?_, ?_, ?_, ?_⟩ <;>
    refine (h (Proc.devRef .tc _) (by decide +kernel)).trans (A5_arg m d _ ?_ ?_ (by decide) (by decide) (by decide)) <;>
    first
    | (unfold A1 ops1; after_results_simp)
    | (unfold A4 ops2; after_results_simp)

end Args

section Range

/-- A word that is signed-at-least 0 and signed-below a small bound is, as an unsigned word, below it. -/
theorem word_lt (v : BitVec 32) (n : ℕ) (hn : n < 2 ^ 31) (e : IntOp.andi (IntOp.cmpi .sge v 0#32) (IntOp.cmpi .slt v (BitVec.ofNat 32 n)) = 1#1) : v.toNat < n := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- A conjunction of bits is one where both are. -/
theorem both_one {a b : BitVec 1} (h : IntOp.andi a b = 1#1) : a = 1#1 ∧ b = 1#1 := by
  revert h; revert a b; decide

/-- What the precondition says: the tokens are 0 or 1, the edges' ends are nodes. -/
theorem range_of_pre {F : FTy → Type} [FloatOps F] (x : IVec Cert.Pre_in_range.S2x500 32) (e : IVec Cert.Pre_in_range.S2x16000 32) (a2 a3 a4 a5 a6 a7)
    (h : @Cert.Pre_in_range.fn Cert.Pre_in_range.Gen.facts F _ x e a2 a3 a4 a5 a6 a7 = fun _ => 1#1) :
    (∀ j, (x j).toNat < 2) ∧ ∀ j, (e j).toNat < 250 := by
  have e0 := congrFun h (fun a => a.elim0)
  simp only [Cert.Pre_in_range.fn, andi] at e0
  obtain ⟨h1, h2⟩ := both_one e0
  have : Subsingleton Cert.Pre_in_range.S_.Idx := ⟨fun a b => funext fun i => i.elim0⟩
  refine ⟨fun j => ?_, fun j => ?_⟩
  · exact word_lt _ 2 (by decide) (Host.reduce_andi_all _ _ _ _ _ h1 j)
  · exact word_lt _ 250 (by decide) (Host.reduce_andi_all _ _ _ _ _ h2 j)

end Range

/-- Every weakly fair execution of the kernel as printed ends, its arguments unchanged, every semaphore at zero. -/
theorem frame_p : Cert.quiescent_Kernel (hKernel := Cert.Kernel.Gen.facts) (hPre_in_range := Cert.Pre_in_range.Gen.facts) := by
  intro m ρ hpre
  have H : θ_run (Cert.Kernel.defs (F := Bits)) (Cert.Kernel.threads (F := Bits)) ⟨m, fun _ => 0, ρ⟩ (@QC Bits _ namedBits m) := by
    rw [defs_same, threads_same]
    exact @run_main Bits _ namedBits m ρ _ fun d => (range_of_pre _ _ _ _ _ _ _ _ (hpre d)).2
  exact (θ_run (Cert.Kernel.defs (F := Bits)) _ _).mono (fun _ h => ⟨fun c => @args_kept Bits _ namedBits m c _ (h.1 c), h.2⟩) H

/-- The same of the idealized kernel, at the ideal instance. -/
theorem frame_pi : Cert.quiescent_KernelIdeal (hKernelIdeal := Cert.KernelIdeal.Gen.facts) (hPre_in_range := Cert.Pre_in_range.Gen.facts) := fun m ρ hpre =>
  (θ_run Cert.KernelIdeal.defs _ _).mono (fun _ h => ⟨fun c => args_kept (F := Ideal) m c (h.1 c), h.2⟩)
    (run_main (F := Ideal) m ρ fun d => (range_of_pre _ _ _ _ _ _ _ _ (hpre d)).2)

/-- The reference ends with its arguments unchanged; it has no semaphore. -/
theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one named constant is the value its table gives. -/
theorem preserves : Cert.preserves_Kernel_KernelIdeal :=
  IdealRules.named_const.statement Cert.KernelIdeal.κ "inv_nodes" .f32 0x3B83126F#32 ((250⁻¹ : ℝ) : EReal) rfl

end Cert.Proof.K

end
-- ==== Proof.ValMath.lean ====
/- The value the program computes, over the edge list as numbers, and the sums that its two readings share. -/
module

public import proofs.«01_k».proof.Proof.Counts
public import Idealize.ShloMosaic.PureOps.Ideal.Laws
public import Idealize.ShloMosaic.Lib.IdealHost

@[expose] public section

noncomputable section

namespace Cert.Proof.K

open Cert.KernelIdeal Cert.KernelIdeal.Gen
open Idealize.ShloMosaic

/-! ## Sums -/

/-- A finite nonnegative factor goes into a sum. -/
theorem mul_sum_real {ι : Type*} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

/-- A count times a value is the value summed over what is counted. -/
theorem count_mul (p : ℕ → Prop) [DecidablePred p] (N : ℕ) (y : EReal) :
    ((Nat.count p N : ℕ) : EReal) * y = ∑ e : Fin N, if p e.val then y else 0 := by
  induction N with
  | zero => simp
  | succ N ih =>
    rw [Nat.count_succ, Fin.sum_univ_castSucc, Nat.cast_add,
      EReal.right_distrib_of_nonneg (Nat.cast_nonneg' _) (Nat.cast_nonneg' _), ih]
    congr 1
    by_cases h : p N <;> simp [h]

/-- Counts of what holds at the same numbers are equal. -/
theorem count_congr (p q : ℕ → Prop) [DecidablePred p] [DecidablePred q] (N : ℕ) (h : ∀ e < N, p e ↔ q e) :
    Nat.count p N = Nat.count q N := by
  induction N with
  | zero => rfl
  | succ N ih =>
    rw [Nat.count_succ, Nat.count_succ, ih fun e he => h e (Nat.lt_succ_of_lt he)]
    have := h N (Nat.lt_succ_self N)
    by_cases hp : p N
    · rw [if_pos hp, if_pos (this.1 hp)]
    · rw [if_neg hp, if_neg fun hq => hp (this.2 hq)]

/-- Counting the numbers below `N` that equal `n`. -/
theorem count_eq (n N : ℕ) : Nat.count (fun k => k = n) N = if n < N then 1 else 0 := by
  induction N with
  | zero => simp
  | succ N ih =>
    rw [Nat.count_succ, ih]
    split_ifs <;> omega

/-! ## The layer -/

/-- The end `a` of edge `e`: an edge of the list, then one loop at each node. -/
def en (E : S2x16000.Idx → BitVec 32) (a : Fin 2) (e : ℕ) : ℕ := if e < 16000 then wd E a e else e - 16000

/-- The edges, loops included, that end in node `n`. -/
def dg (E : S2x16000.Idx → BitVec 32) (n : ℕ) : ℕ := Nat.count (fun e => en E 1 e = n) 16250

/-- One over the root of a node's degree, zero for a node without edges. -/
def dv (E : S2x16000.Idx → BitVec 32) (n : ℕ) : ℝ := (Real.sqrt (dg E n))⁻¹

/-- The scale of a node is not negative. -/
theorem dv_nonneg (E : S2x16000.Idx → BitVec 32) (n : ℕ) : 0 ≤ dv E n := inv_nonneg.2 (Real.sqrt_nonneg _)

/-- One column of a graph convolution: the normalised sum over the edges that end in `n`. -/
def lay (E : S2x16000.Idx → BitVec 32) (h : ℕ → EReal) (n : ℕ) : EReal :=
  ∑ e : Fin 16250, if en E 1 e.val = n then ((dv E (en E 0 e.val) : EReal) * (dv E (en E 1 e.val) : EReal)) * h (en E 0 e.val) else 0

/-- The edges, loops included, from `m` to `n`. -/
def ce (E : S2x16000.Idx → BitVec 32) (n m : ℕ) : ℕ := Nat.count (fun e => en E 1 e = n ∧ en E 0 e = m) 16250

/-- An edge's end is a node. -/
theorem en_lt (E : S2x16000.Idx → BitVec 32) (hE : ∀ x, (E x).toNat < 250) (a : Fin 2) (e : ℕ) (he : e < 16250) : en E a e < 250 := by
  unfold en
  by_cases h : e < 16000
  · rw [if_pos h]; unfold wd; rw [dif_pos h]; exact hE _
  · rw [if_neg h]; omega

/-- The same column from the matrix of edge counts, scaled on both sides. -/
theorem lay_eq (E : S2x16000.Idx → BitVec 32) (hE : ∀ x, (E x).toNat < 250) (h : ℕ → EReal) (n : ℕ) :
    (dv E n : EReal) * ∑ m : Fin 256, ((ce E n m.val : ℕ) : EReal) * ((dv E m.val : EReal) * h m.val) = lay E h n := by
  simp only [ce, count_mul]
  rw [Finset.sum_comm, mul_sum_real _ _ (dv_nonneg E n)]
  unfold lay
  refine Finset.sum_congr rfl fun e _ => ?_
  have he := en_lt E hE 0 e.val e.isLt
  rw [Finset.sum_eq_single (⟨en E 0 e.val, by omega⟩ : Fin 256)]
  · by_cases hd : en E 1 e.val = n
    · simp only [hd, true_and, if_true]; rw [mul_left_comm, mul_assoc]
    · simp [hd]
  · intro m _ hm
    rw [if_neg]; rintro ⟨-, h2⟩; exact hm (Fin.ext h2.symm)
  · intro h; exact absurd (Finset.mem_univ _) h

/-- A row of edge counts adds to the degree. -/
theorem sum_ce (E : S2x16000.Idx → BitVec 32) (hE : ∀ x, (E x).toNat < 250) (n : ℕ) :
    ∑ m : Fin 256, ((ce E n m.val : ℕ) : EReal) = ((dg E n : ℕ) : EReal) := by
  have h1 : ∀ m : Fin 256, ((ce E n m.val : ℕ) : EReal) = ∑ e : Fin 16250, if en E 1 e.val = n ∧ en E 0 e.val = m.val then (1 : EReal) else 0 :=
    fun m => (mul_one _).symm.trans (count_mul _ _ _)
  rw [Finset.sum_congr rfl fun m _ => h1 m, Finset.sum_comm, ← mul_one ((dg E n : ℕ) : EReal), dg, count_mul]
  refine Finset.sum_congr rfl fun e _ => ?_
  have he := en_lt E hE 0 e.val e.isLt
  rw [Finset.sum_eq_single (⟨en E 0 e.val, by omega⟩ : Fin 256)]
  · simp
  · intro m _ hm
    rw [if_neg]; rintro ⟨-, h2⟩; exact hm (Fin.ext h2.symm)
  · intro h; exact absurd (Finset.mem_univ _) h

/-- The four groups' counts and the loops make the matrix of edge counts. -/
theorem ce_eq (E : S2x16000.Idx → BitVec 32) (n m : ℕ) :
    ce E n m = cnt E 0 n m 4000 + cnt E 1 n m 4000 + cnt E 2 n m 4000 + cnt E 3 n m 4000 + if n = m ∧ n < 250 then 1 else 0 := by
  have hc : ∀ g < 4, Nat.count (fun k => en E 1 (4000 * g + k) = n ∧ en E 0 (4000 * g + k) = m) 4000 = cnt E g n m 4000 := fun g hg =>
    count_congr _ _ _ fun e he => by
      unfold en Hit
      rw [if_pos (by omega), if_pos (by omega)]
  have hl : Nat.count (fun k => en E 1 (16000 + k) = n ∧ en E 0 (16000 + k) = m) 250 = if n = m ∧ n < 250 then 1 else 0 := by
    by_cases hnm : n = m
    · subst hnm
      rw [← (count_congr (fun k => k = n) _ 250 fun e he => ?_), count_eq]
      · simp
      · unfold en; rw [if_neg (by omega), if_neg (by omega)]; omega
    · rw [count_congr _ (fun k => k = 250) 250 fun e he => ?_, count_eq, if_neg (by omega), if_neg (by tauto)]
      unfold en; rw [if_neg (by omega), if_neg (by omega)]; omega
  unfold ce
  rw [show (16250 : ℕ) = 4000 * 3 + 4000 + 250 from rfl, Nat.count_add, Nat.count_add,
    show 4000 * 3 = 4000 * 2 + 4000 from rfl, Nat.count_add, show 4000 * 2 = 4000 * 1 + 4000 from rfl, Nat.count_add]
  have h0 := hc 0 (by omega); have h1 := hc 1 (by omega); have h2 := hc 2 (by omega); have h3 := hc 3 (by omega)
  simp only [Nat.mul_zero, Nat.zero_add] at h0
  simp only [Nat.mul_one] at *
  rw [h0, h1, ← h2, ← h3, ← hl]

/-- Only the features of nodes below 250 enter. -/
theorem lay_congr (E : S2x16000.Idx → BitVec 32) (hE : ∀ x, (E x).toNat < 250) (h h' : ℕ → EReal) (hh : ∀ m < 250, h m = h' m) (n : ℕ) :
    lay E h n = lay E h' n :=
  Finset.sum_congr rfl fun e _ => by rw [hh _ (en_lt E hE 0 e.val e.isLt)]

/-! ## The whole value -/

/-- A layer: the convolution, its bias, and zero for what is negative. -/
def layer (E : S2x16000.Idx → BitVec 32) (h : ℕ → Fin 256 → EReal) (b : Fin 256 → EReal) (n : ℕ) (c : Fin 256) : EReal :=
  max (lay E (fun m => h m c) n + b c) 0

/-- The features times a weight matrix. -/
def prod (h : ℕ → Fin 256 → EReal) (W : Fin 256 → Fin 256 → EReal) (n : ℕ) (c : Fin 256) : EReal := ∑ k : Fin 256, h n k * W k c

/-- Two layers, the mean over the nodes, the last product, and its logistic. -/
def total (E : S2x16000.Idx → BitVec 32) (h : ℕ → Fin 256 → EReal) (b₁ : Fin 256 → EReal) (W : Fin 256 → Fin 256 → EReal)
    (b₂ w : Fin 256 → EReal) (b : EReal) : EReal :=
  Ideal.logistic (∑ c : Fin 256, ((∑ n : Fin 250, layer E (prod (layer E h b₁) W) b₂ n.val c) * ((250⁻¹ : ℝ) : EReal)) * w c + b)

/-- The whole depends on the features of the nodes only. -/
theorem total_congr (E : S2x16000.Idx → BitVec 32) (hE : ∀ x, (E x).toNat < 250) (h h' : ℕ → Fin 256 → EReal)
    (hh : ∀ m < 250, ∀ c, h m c = h' m c) (b₁ : Fin 256 → EReal) (W : Fin 256 → Fin 256 → EReal)
    (b₂ w : Fin 256 → EReal) (b : EReal) : total E h b₁ W b₂ w b = total E h' b₁ W b₂ w b := by
  have h1 : layer E h b₁ = layer E h' b₁ := funext fun n => funext fun c => by
    unfold layer; rw [lay_congr E hE _ (fun m => h' m c) (fun m hm => hh m hm c)]
  unfold total; rw [h1]

/-! ## The last of what is hit -/

/-- The value at the last number below `n` that satisfies `q`, zero if there is none. -/
def pick (q : ℕ → Prop) [DecidablePred q] (f : ℕ → EReal) : ℕ → EReal
  | 0 => 0
  | n + 1 => if q n then f n else pick q f n

/-- Either nothing below `n` satisfies `q`, or there is a last number that does. -/
theorem last_cases (q : ℕ → Prop) [DecidablePred q] (n : ℕ) :
    (∀ t < n, ¬ q t) ∨ ∃ t < n, q t ∧ ∀ u, t < u → u < n → ¬ q u := by
  induction n with
  | zero => left; intro t h; omega
  | succ n ih =>
    by_cases h : q n
    · right; exact ⟨n, by omega, h, fun u h1 h2 => by omega⟩
    · rcases ih with ih | ⟨t, ht, hq, hl⟩
      · left; intro t h1 h2
        rcases Nat.lt_succ_iff_lt_or_eq.1 h1 with h3 | h3
        · exact ih t h3 h2
        · subst h3; exact h h2
      · right; refine ⟨t, by omega, hq, fun u h1 h2 h3 => ?_⟩
        rcases Nat.lt_succ_iff_lt_or_eq.1 h2 with h4 | h4
        · exact hl u h1 h4 h3
        · subst h4; exact h h3

/-- With nothing to pick the value is zero. -/
theorem pick_none (q : ℕ → Prop) [DecidablePred q] (f : ℕ → EReal) (n : ℕ) (h : ∀ t < n, ¬ q t) : pick q f n = 0 := by
  induction n with
  | zero => rfl
  | succ n ih => rw [pick, if_neg (h n (by omega))]; exact ih fun t ht => h t (by omega)

/-- What is picked is the value at the last that satisfies `q`. -/
theorem pick_last (q : ℕ → Prop) [DecidablePred q] (f : ℕ → EReal) (n t : ℕ) (ht : t < n) (hq : q t)
    (hl : ∀ u, t < u → u < n → ¬ q u) : pick q f n = f t := by
  induction n with
  | zero => omega
  | succ n ih =>
    by_cases h : t = n
    · subst h; rw [pick, if_pos hq]
    · rw [pick, if_neg (hl n (by omega) (by omega))]
      exact ih (by omega) fun u h1 h2 => hl u h1 (by omega)

/-- A fold that overwrites keeps the last overwrite. -/
theorem foldl_pick (n : ℕ) (q : ℕ → Prop) [DecidablePred q] (f : ℕ → EReal) (P : Fin n → Prop) [DecidablePred P] (g : Fin n → EReal)
    (hP : ∀ k, P k ↔ q k.val) (hg : ∀ k, P k → g k = f k.val) :
    (List.finRange n).foldl (fun a k => if P k then g k else a) 0 = pick q f n := by
  induction n with
  | zero => rfl
  | succ n ih =>
    rw [List.finRange_succ_last, List.foldl_append, List.foldl_map]
    rw [ih (fun k => P k.castSucc) (fun k => g k.castSucc) (fun k => hP _) (fun k h => hg _ h)]
    simp only [List.foldl_cons, List.foldl_nil, pick]
    by_cases h : P (Fin.last n)
    · have h2 : q n := (hP _).1 h
      rw [if_pos h, if_pos h2]; exact hg _ h
    · have h2 : ¬ q n := fun h3 => h ((hP _).2 h3)
      rw [if_neg h, if_neg h2]

/-- A sum with a single one in it, at the last hit, is the value there. -/
theorem sum_pick (N : ℕ) (q : ℕ → Prop) [DecidablePred q] (f : ℕ → EReal) (s : Fin N → EReal)
    (h0 : ∀ t : Fin N, ¬ q t.val → s t = 0)
    (h1 : ∀ t : Fin N, q t.val → (∀ u, t.val < u → u < N → ¬ q u) → s t = f t.val)
    (h2 : ∀ t u : Fin N, q u.val → t.val < u.val → s t = 0) : ∑ t, s t = pick q f N := by
  rcases last_cases q N with h | ⟨t, ht, hq, hl⟩
  · rw [pick_none q f N h]; exact Finset.sum_eq_zero fun t _ => h0 t (h t.val t.isLt)
  · rw [pick_last q f N t ht hq hl, Finset.sum_eq_single (⟨t, ht⟩ : Fin N)]
    · exact h1 ⟨t, ht⟩ hq hl
    · intro u _ hu
      rcases Nat.lt_trichotomy u.val t with h | h | h
      · exact h2 u ⟨t, ht⟩ hq h
      · exact absurd (Fin.ext h) hu
      · exact h0 u (hl u.val h u.isLt)
    · intro h; exact absurd (Finset.mem_univ _) h

/-- Numbers that satisfy nothing change nothing. -/
theorem pick_more (q : ℕ → Prop) [DecidablePred q] (f : ℕ → EReal) (n k : ℕ) (h : ∀ t, n ≤ t → t < n + k → ¬ q t) : pick q f (n + k) = pick q f n := by
  induction k with
  | zero => rfl
  | succ k ih => rw [← Nat.add_assoc, pick, if_neg (h _ (by omega) (by omega))]; exact ih fun t h1 h2 => h t h1 (by omega)

/-- What is picked depends on the numbers below `n` only. -/
theorem pick_congr (q q' : ℕ → Prop) [DecidablePred q] [DecidablePred q'] (f f' : ℕ → EReal) (n : ℕ)
    (h : ∀ t < n, (q t ↔ q' t) ∧ f t = f' t) : pick q f n = pick q' f' n := by
  induction n with
  | zero => rfl
  | succ n ih =>
    have h1 := h n (by omega)
    rw [pick, pick, ih fun t ht => h t (by omega), h1.2]
    by_cases hq : q n
    · rw [if_pos hq, if_pos (h1.1.1 hq)]
    · rw [if_neg hq, if_neg fun h => hq (h1.1.2 h)]

/-! ## Degrees -/

/-- A count, one addition after another, is the number. -/
theorem addN_ideal (n : ℕ) : addN Ideal n = ((n : ℕ) : EReal) := by
  induction n with
  | zero => simpa [addN] using Ideal.ofBits_zero_f32
  | succ n ih =>
    rw [addN, ih, Nat.cast_add]
    congr 1
    simp [Scalar.ofBits, FloatOps.ofBits]

end Cert.Proof.K

end
-- ==== Proof.ValKer.lean ====
/- The second TensorCore kernel's result at the ideal instance: two graph layers, the mean and the logistic. -/
module

public import proofs.«01_k».proof.Proof.ValMath
public import proofs.«01_k».proof.Proof.Reg
public import Idealize.ShloMosaic.Lib.Pointwise
public import Idealize.ShloMosaic.Lib.WordCmp

@[expose] public section

noncomputable section

namespace Cert.Proof.V

open Cert.KernelIdeal Cert.KernelIdeal.Gen
open Idealize.ShloMosaic
open Cert.Proof.K hiding ix2

/-! ## Words as conditions -/

/-- A selection by a bit that says `p`. -/
theorem sel_iff {α : Type} {c : BitVec 1} (p : Prop) [Decidable p] (h : c = 1#1 ↔ p) (x y : α) :
    Scalar.select c x y = if p then x else y := by
  by_cases hp : p
  · rw [if_pos hp, WordCmp.select_of_eq_one (h.2 hp)]
  · rw [if_neg hp, WordCmp.select_of_eq_zero]
    have : ¬ c = 1#1 := fun hc => hp (h.1 hc)
    clear h
    revert c; decide

/-- A conjunction of bits is one where both are. -/
theorem andi_one (a b : BitVec 1) : IntOp.andi a b = 1#1 ↔ a = 1#1 ∧ b = 1#1 := by revert a b; decide

/-- The bit of an equality is one where it holds. -/
theorem eq_one {w : ℕ} (a b : BitVec w) : IntOp.cmpi .eq a b = 1#1 ↔ a = b := by
  rw [WordCmp.cmpi_eq_eq]
  by_cases h : a = b <;> simp [h]

/-- The bit of a signed comparison of small words is one where the numbers compare so. -/
theorem slt_one (a b : ℕ) (ha : a < 2 ^ 31) (hb : b < 2 ^ 31) :
    IntOp.cmpi .slt (BitVec.ofNat 32 a) (BitVec.ofNat 32 b) = 1#1 ↔ a < b := by
  rw [WordCmp.cmpi_slt_ofNat_eq_one_iff (w := 32) ha hb]

/-- Small numbers with the same word are the same. -/
theorem ofNat_inj (a b : ℕ) (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · intro h; rw [h]

/-! ## Degrees -/

/-- One over the root of a degree, zero where the degree is zero. -/
theorem inv_root (k : ℕ) : (if (0 : EReal) < ((k : ℕ) : EReal) then Ideal.rsqrt ((k : ℕ) : EReal) else 0) = (((Real.sqrt k)⁻¹ : ℝ) : EReal) := by
  by_cases h : k = 0
  · subst h; simp
  · have hk : (0 : ℝ) < k := by exact_mod_cast Nat.pos_of_ne_zero h
    have e : ((k : ℕ) : EReal) = ((k : ℝ) : EReal) := (EReal.coe_natCast).symm
    rw [if_pos (by rw [e]; exact_mod_cast hk), e]
    show (if (k : ℝ) < 0 then (⊥ : EReal) else if (k : ℝ) = 0 then ⊤ else (((Real.sqrt k)⁻¹ : ℝ) : EReal)) = _
    rw [if_neg hk.not_gt, if_neg hk.ne']

section Layers

variable (E : S2x16000.Idx → BitVec 32) (hE : ∀ x, (E x).toNat < 250)

/-- A word of the SparseCore's result: the count of its group of edges. -/
theorem cell (g n r : ℕ) (m : Fin 256) (hr : r = 256 * g + n) (hn : n < 256) (h : r < 1024) :
    (counts (F := Ideal) E : Vec Ideal S1024x256 .f32) (ix2 ⟨r, h⟩ m) = ((cnt E g n m.val 4000 : ℕ) : EReal) := by
  have h1 : (counts (F := Ideal) E : Vec Ideal S1024x256 .f32) (ix2 ⟨r, h⟩ m) = addN Ideal (cnt E (r / 256) (r % 256) m.val 4000) := rfl
  rw [h1, addN_ideal, show r / 256 = g by omega, show r % 256 = n by omega]

/-- The matrix the kernel makes of the SparseCore's counts. -/
theorem pay2_at (n m : Fin 256) : k2_pay2 (F := Ideal) (counts (F := Ideal) E) (ix2 n m) = ((ce E n.val m.val : ℕ) : EReal) := by
  pointwise [k2_pay2]
  rw [cell E 0 n.val n.val m (by omega) n.isLt, cell E 1 n.val (256 + n.val) m (by omega) n.isLt, cell E 2 n.val (512 + n.val) m (by omega) n.isLt,
    cell E 3 n.val (768 + n.val) m (by omega) n.isLt, ce_eq,
    sel_iff (n.val = m.val ∧ n.val < 250) (by
      rw [andi_one, eq_one, ofNat_inj _ _ (by omega) (by omega), slt_one _ 250 (by omega) (by omega)])]
  push_cast
  rfl

include hE in
/-- The scale of each node. -/
theorem pay3_at (n : Fin 256) : k2_pay3 (F := Ideal) (counts (F := Ideal) E) (ix2 n 0) = (dv E n.val : EReal) := by
  pointwise [k2_pay3]
  simp only [pay2_at, sum_ce E hE]
  exact (inv_root (dg E n.val))

/-- A matrix of features by node number. -/
def feat (h : Vec Ideal S256x256 .f32) (m : ℕ) (k : Fin 256) : EReal := if hm : m < 256 then h (ix2 ⟨m, hm⟩ k) else 0

/-- The features by node number, at a row. -/
theorem feat_val (h : Vec Ideal S256x256 .f32) (m k : Fin 256) : feat h m.val k = h (ix2 m k) := dif_pos m.isLt

include hE in
/-- The first layer, its product with the second weight, and the scale. -/
theorem pay4_at (h : Vec Ideal S256x256 .f32) (b : Vec Ideal S1x256 .f32) (w : Vec Ideal S256x256 .f32) (n c : Fin 256) :
    k2_pay4 (F := Ideal) (counts (F := Ideal) E) h b w (ix2 n c)
      = (dv E n.val : EReal) * prod (layer E (feat h) fun k => b (ix2 0 k)) (fun k j => w (ix2 k j)) n.val c := by
  pointwise [k2_pay4]
  simp only [pay2_at, pay3_at E hE]
  have key : ∀ k : Fin 256, (dv E n.val : EReal) * ∑ m : Fin 256, ((ce E n.val m.val : ℕ) : EReal) * ((dv E m.val : EReal) * h (ix2 m k))
      = lay E (fun m => feat h m k) n.val := fun k => by
    rw [← lay_eq E hE]; simp only [feat_val]
  simp only [key]
  rfl

/-- A sum over the padded nodes that keeps the real ones. -/
theorem sum_real (f : ℕ → EReal) : (∑ n : Fin 256, if n.val < 250 then f n.val else 0) = ∑ n : Fin 250, f n.val := by
  rw [show (∑ n : Fin 256, if n.val < 250 then f n.val else 0) = ∑ n : Fin (250 + 6), if n.val < 250 then f n.val else 0 from rfl, Fin.sum_univ_add]
  have h1 : ∀ i : Fin 250, (if (Fin.castAdd 6 i).val < 250 then f (Fin.castAdd 6 i).val else 0) = f i.val := fun i => if_pos i.isLt
  have h2 : ∀ i : Fin 6, (if (Fin.natAdd 250 i).val < 250 then f (Fin.natAdd 250 i).val else 0) = 0 := fun i =>
    if_neg (by show ¬ 250 + i.val < 250; omega)
  rw [Finset.sum_congr rfl fun i _ => h1 i, Finset.sum_congr rfl fun i _ => h2 i, Finset.sum_const_zero, add_zero]

include hE in
/-- The second kernel's one result, over the SparseCore's counts. -/
theorem tc2_total (h : Vec Ideal S256x256 .f32) (b1 : Vec Ideal S1x256 .f32) (w2 : Vec Ideal S256x256 .f32) (b2 : Vec Ideal S1x256 .f32)
    (wf : Vec Ideal S256x1 .f32) (bf : Vec Ideal S1x1 .f32) :
    tc2Val (F := Ideal) (counts (F := Ideal) E) h b1 w2 b2 wf bf (ix2 0 0)
      = total E (feat h) (fun k => b1 (ix2 0 k)) (fun k j => w2 (ix2 k j)) (fun k => b2 (ix2 0 k)) (fun k => wf (ix2 k 0)) (bf (ix2 0 0)) := by
  unfold tc2Val
  pointwise [k2_pay1]
  simp only [pay2_at, pay3_at E hE, pay4_at E hE]
  have key : ∀ n c : Fin 256, (dv E n.val : EReal) * ∑ m : Fin 256, ((ce E n.val m.val : ℕ) : EReal)
        * ((dv E m.val : EReal) * prod (layer E (feat h) fun k => b1 (ix2 0 k)) (fun k j => w2 (ix2 k j)) m.val c)
      = lay E (fun m => prod (layer E (feat h) fun k => b1 (ix2 0 k)) (fun k j => w2 (ix2 k j)) m c) n.val := fun n c => by
    rw [← lay_eq E hE]
  simp only [key]
  have hsel : ∀ (n : Fin 256) (y : EReal), Scalar.select (IntOp.cmpi .slt (BitVec.ofNat 32 n.val) 250#32) y 0 = if n.val < 250 then y else 0 :=
    fun n y => sel_iff _ (slt_one _ 250 (by omega) (by omega)) _ _
  simp only [hsel]
  have hsum : ∀ c : Fin 256, (∑ n : Fin 256, if n.val < 250 then max (lay E (fun m => prod (layer E (feat h) fun k => b1 (ix2 0 k)) (fun k j => w2 (ix2 k j)) m c) n.val + b2 (ix2 0 c)) 0 else 0)
      = ∑ n : Fin 250, layer E (prod (layer E (feat h) fun k => b1 (ix2 0 k)) (fun k j => w2 (ix2 k j))) (fun k => b2 (ix2 0 k)) n.val c := fun c =>
    sum_real (fun n => layer E (prod (layer E (feat h) fun k => b1 (ix2 0 k)) (fun k j => w2 (ix2 k j))) (fun k => b2 (ix2 0 k)) n c)
  simp only [hsum]
  have hn : Named.named (F := Ideal) (φ := .f32) κ "inv_nodes" 0x3B83126F#32 = ((250⁻¹ : ℝ) : EReal) :=
    IdealRules.named_const.ideal_named_scalar _ _ _ _ rfl
  rw [hn]
  rfl

end Layers

end Cert.Proof.V

end
-- ==== Proof.ValEmb.lean ====
/- The first TensorCore kernel's result at the ideal instance: for each node the last positional row of its two places, through the first weight. -/
module

public import proofs.«01_k».proof.Proof.ValKer

@[expose] public section

noncomputable section

namespace Cert.Proof.V

open Cert.KernelIdeal Cert.KernelIdeal.Gen
open Idealize.ShloMosaic
open Cert.Proof.K hiding ix2

/-- Word `t` of row `a` of the tokens, as a number. -/
def tok (X : S2x500.Idx → BitVec 32) (a : Fin 2) (t : ℕ) : ℕ := if h : t < 500 then (X (ix2 a ⟨t, h⟩)).toNat else 1000000

/-- Token `t` names place `h` of node `n`. -/
def Names (X : S2x500.Idx → BitVec 32) (n h t : ℕ) : Prop := tok X 0 t = n ∧ tok X 1 t = h

instance (X : S2x500.Idx → BitVec 32) (n h : ℕ) : DecidablePred (Names X n h) := fun _ => inferInstanceAs (Decidable (_ ∧ _))

/-- Column `k` of place `h` of node `n`: the row of the last token that names the place, zero if none does. -/
def emb (X : S2x500.Idx → BitVec 32) (P : ℕ → Fin 256 → EReal) (n h : ℕ) (k : Fin 256) : EReal := pick (Names X n h) (fun t => P t k) 500

/-- The first weight's product with both places of a node. -/
def emb1 (X : S2x500.Idx → BitVec 32) (P : ℕ → Fin 256 → EReal) (W : Fin 512 → Fin 256 → EReal) (n : ℕ) (c : Fin 256) : EReal :=
  (∑ k : Fin 256, emb X P n 0 k * W ⟨k.val, by omega⟩ c) + ∑ k : Fin 256, emb X P n 1 k * W ⟨256 + k.val, by omega⟩ c

/-- The first product depends on the table's first five hundred rows only. -/
theorem emb1_congr (X : S2x500.Idx → BitVec 32) (P P' : ℕ → Fin 256 → EReal) (h : ∀ t < 500, ∀ k, P t k = P' t k) (W : Fin 512 → Fin 256 → EReal) :
    emb1 X P W = emb1 X P' W := by
  have he : ∀ n r k, emb X P n r k = emb X P' n r k := fun n r k => pick_congr _ _ _ _ _ fun t ht => ⟨Iff.rfl, h t ht k⟩
  funext n c
  unfold emb1
  simp only [he]

/-- The greatest of signed words of which one is `t` and none is more. -/
theorem fold_max {N : ℕ} (B : Fin N → BitVec 32) (t : Fin N) (ht : t.val < 2 ^ 31) (hB : ∀ u, (B u).toInt ≤ (t.val : ℤ)) (h : B t = BitVec.ofNat 32 t.val) :
    Finset.fold IntOp.maxsi 2147483648#32 B Finset.univ = BitVec.ofNat 32 t.val := by
  classical
  have hti : (BitVec.ofNat 32 t.val).toInt = (t.val : ℤ) := by
    rw [BitVec.toInt_eq_toNat_cond, BitVec.toNat_ofNat, Nat.mod_eq_of_lt (by omega), if_pos (by omega)]
  have key : ∀ s : Finset (Fin N), (Finset.fold IntOp.maxsi 2147483648#32 B s).toInt ≤ (t.val : ℤ)
      ∧ (t ∈ s → Finset.fold IntOp.maxsi 2147483648#32 B s = BitVec.ofNat 32 t.val) := by
    intro s
    induction s using Finset.induction_on with
    | empty =>
      refine ⟨?_, fun h => absurd h (Finset.notMem_empty t)⟩
      rw [Finset.fold_empty]
      have : (2147483648#32 : BitVec 32).toInt = -2147483648 := by decide
      rw [this]; omega
    | insert a s ha ih =>
      have hmx : ∀ p q : BitVec 32, IntOp.maxsi p q = if q.slt p = true then p else q := fun _ _ => rfl
      rw [Finset.fold_insert ha, hmx]
      by_cases hlt : (Finset.fold IntOp.maxsi 2147483648#32 B s).slt (B a) = true
      · rw [if_pos hlt]
        refine ⟨hB a, fun hm => ?_⟩
        rcases Finset.mem_insert.1 hm with h1 | h1
        · subst h1; exact h
        · rw [ih.2 h1, BitVec.slt_eq_decide, decide_eq_true_eq, hti] at hlt
          have := hB a; omega
      · rw [if_neg hlt]
        refine ⟨ih.1, fun hm => ?_⟩
        rcases Finset.mem_insert.1 hm with h1 | h1
        · subst h1
          rw [h, BitVec.slt_eq_decide, decide_eq_true_eq, hti] at hlt
          refine BitVec.eq_of_toInt_eq ?_
          rw [hti]; have := ih.1; omega
        · exact ih.2 h1
  exact (key Finset.univ).2 (Finset.mem_univ t)

/-- A token's place as one word, and minus one past the tokens. -/
theorem kpay2_at (x : Vec Ideal S2x500 .i32) (n : Fin 256) (t : Fin 512) :
    k0_pay2 (F := Ideal) x (ix2 n t)
      = if h : t.val < 500 then IntOp.addi (IntOp.muli (x (ix2 0 ⟨t.val, h⟩)) 2#32) (x (ix2 1 ⟨t.val, h⟩)) else 4294967295#32 := by
  pointwise [k0_pay2]

/-- Twice the first word and the second name the place. -/
theorem cond (x : Vec Ideal S2x500 .i32) (hx : ∀ y, (x y).toNat < 2) (n : Fin 256) (t : Fin 512) (h : ℕ) (hh : h < 2) :
    IntOp.cmpi .eq (k0_pay2 (F := Ideal) x (ix2 n t)) (IntOp.addi (IntOp.muli 2#32 (BitVec.ofNat 32 n.val)) (BitVec.ofNat 32 h)) = 1#1 ↔ Names x n.val h t.val := by
  rw [eq_one, kpay2_at]
  unfold Names tok
  have hn := n.isLt
  by_cases ht : t.val < 500
  · rw [dif_pos ht, dif_pos ht, dif_pos ht]
    have h0 := hx (ix2 0 ⟨t.val, ht⟩)
    have h1 := hx (ix2 1 ⟨t.val, ht⟩)
    rw [← BitVec.toNat_inj]
    simp only [IntOp.addi, IntOp.muli, BitVec.toNat_add, BitVec.toNat_mul, BitVec.toNat_ofNat]
    omega
  · rw [dif_neg ht, dif_neg ht, dif_neg ht, ← BitVec.toNat_inj]
    simp only [IntOp.addi, IntOp.muli, BitVec.toNat_add, BitVec.toNat_mul, BitVec.toNat_ofNat]
    omega

/-- The row that the kernel's one-hot sum picks. -/
theorem pick_row (x : Vec Ideal S2x500 .i32) (hx : ∀ y, (x y).toNat < 2) (n : Fin 256) (h : ℕ) (hh : h < 2) (f : Fin 512 → EReal) (P : ℕ → EReal) (hP : ∀ t, f t = P t.val) :
    (∑ t : Fin 512, Scalar.select (IntOp.andi
        (IntOp.cmpi .eq (k0_pay2 (F := Ideal) x (ix2 n t)) (IntOp.addi (IntOp.muli 2#32 (BitVec.ofNat 32 n.val)) (BitVec.ofNat 32 h)))
        (IntOp.cmpi .eq (BitVec.ofNat 32 t.val) (Finset.fold IntOp.maxsi 2147483648#32 (fun u : Fin 512 => Scalar.select
          (IntOp.cmpi .eq (k0_pay2 (F := Ideal) x (ix2 n u)) (IntOp.addi (IntOp.muli 2#32 (BitVec.ofNat 32 n.val)) (BitVec.ofNat 32 h)))
          (BitVec.ofNat 32 u.val) 4294967295#32) Finset.univ))) (f t) 0)
      = pick (Names x n.val h) P 500 := by
  rw [← pick_more (Names x n.val h) P 500 12 (fun t h1 h2 h3 => by
    have h4 := h3.1
    unfold tok at h4
    rw [dif_neg (by omega)] at h4
    omega)]
  have hB : ∀ u : Fin 512, Scalar.select (IntOp.cmpi .eq (k0_pay2 (F := Ideal) x (ix2 n u)) (IntOp.addi (IntOp.muli 2#32 (BitVec.ofNat 32 n.val)) (BitVec.ofNat 32 h)))
      (BitVec.ofNat 32 u.val) 4294967295#32 = if Names x n.val h u.val then BitVec.ofNat 32 u.val else 4294967295#32 :=
    fun u => sel_iff _ (cond x hx n u h hh) _ _
  simp only [hB]
  have hlast : ∀ t : Fin 512, Names x n.val h t.val → (∀ u, t.val < u → u < 512 → ¬ Names x n.val h u) →
      Finset.fold IntOp.maxsi 2147483648#32 (fun u : Fin 512 => if Names x n.val h u.val then BitVec.ofNat 32 u.val else 4294967295#32) Finset.univ
        = BitVec.ofNat 32 t.val := fun t hq hl => by
    refine fold_max _ t (by omega) (fun u => ?_) (if_pos hq)
    by_cases hu : Names x n.val h u.val
    · rw [if_pos hu, BitVec.toInt_eq_toNat_cond, BitVec.toNat_ofNat, Nat.mod_eq_of_lt (by omega), if_pos (by omega)]
      have : ¬ t.val < u.val := fun hlt => hl u.val hlt u.isLt hu
      omega
    · rw [if_neg hu]
      have : (4294967295#32 : BitVec 32).toInt = -1 := by decide
      rw [this]; omega
  refine sum_pick 512 (Names x n.val h) P _ (fun t hq => ?_) (fun t hq hl => ?_) fun t u hq hlt => ?_
  · rw [sel_iff False (by rw [andi_one, cond x hx n t h hh]; tauto), if_neg id]
  · rw [hlast t hq hl, sel_iff True (by rw [andi_one, cond x hx n t h hh, eq_one]; tauto), if_pos trivial, hP]
  · rcases last_cases (Names x n.val h) 512 with hno | ⟨v, hv, hqv, hlv⟩
    · exact absurd hq (hno u.val u.isLt)
    · have huv : u.val ≤ v := Nat.le_of_not_lt fun hh => hlv u.val hh u.isLt hq
      rw [hlast ⟨v, hv⟩ hqv hlv, sel_iff False (by
        rw [andi_one, eq_one (BitVec.ofNat 32 t.val), ofNat_inj _ _ (by omega) (by show v < _; omega)]
        constructor
        · rintro ⟨-, he⟩; change t.val = v at he; omega
        · exact False.elim), if_neg id]

/-- The second place's choice of a token: its word is the place's, and it is the last such. -/
theorem kpay5_at (x : Vec Ideal S2x500 .i32) (n : Fin 256) (t : Fin 512) :
    k0_pay5 (F := Ideal) x (ix2 n t) = IntOp.andi
        (IntOp.cmpi .eq (k0_pay2 (F := Ideal) x (ix2 n t)) (IntOp.addi (IntOp.muli 2#32 (BitVec.ofNat 32 n.val)) 1#32))
        (IntOp.cmpi .eq (BitVec.ofNat 32 t.val) (Finset.fold IntOp.maxsi 2147483648#32 (fun u : Fin 512 => Scalar.select
          (IntOp.cmpi .eq (k0_pay2 (F := Ideal) x (ix2 n u)) (IntOp.addi (IntOp.muli 2#32 (BitVec.ofNat 32 n.val)) 1#32))
          (BitVec.ofNat 32 u.val) 4294967295#32) Finset.univ)) := by
  pointwise [k0_pay5]

/-- The table of positions by row number. -/
def rowOf (p : Vec Ideal S512x256 .f32) (t : ℕ) (k : Fin 256) : EReal := if h : t < 512 then p (ix2 ⟨t, h⟩ k) else 0

/-- A row of the kernel's table. -/
theorem kpay3_at (p : Vec Ideal S512x256 .f32) (t : Fin 512) (k : Fin 256) : k0_pay3 (F := Ideal) p (ix2 t k) = rowOf p t.val k := by
  rw [rowOf, dif_pos t.isLt]
  pointwise [k0_pay3]

/-- The first place's row: that of the last token that names it. -/
theorem kpay4_at (x : Vec Ideal S2x500 .i32) (hx : ∀ y, (x y).toNat < 2) (p : Vec Ideal S512x256 .f32) (n k : Fin 256) :
    k0_pay4 (F := Ideal) x p (ix2 n k) = emb x (rowOf p) n.val 0 k := by
  pointwise [k0_pay4]
  exact pick_row x hx n 0 (by omega) _ _ fun t => kpay3_at p t k

/-- The first kernel's result. -/
theorem tc1_at (x : Vec Ideal S2x500 .i32) (hx : ∀ y, (x y).toNat < 2) (p w : Vec Ideal S512x256 .f32) (n c : Fin 256) :
    tc1Val (F := Ideal) x p w (ix2 n c) = emb1 x (rowOf p) (fun k c => w (ix2 k c)) n.val c := by
  unfold tc1Val
  pointwise [k0_pay1]
  simp only [kpay4_at x hx, kpay5_at]
  have h5 : ∀ k : Fin 256, _ = emb x (rowOf p) n.val 1 k := fun k => pick_row x hx n 1 (by omega) (fun t => k0_pay3 (F := Ideal) p (ix2 t k)) (fun t => rowOf p t k) fun t => kpay3_at p t k
  unfold emb1
  refine congrArg₂ (· + ·) (Finset.sum_congr rfl fun k _ => ?_) (Finset.sum_congr rfl fun k _ => ?_)
  · refine congrArg (emb x (rowOf p) n.val 0 k * ·) ?_
    refine congrArg w (funext fun a => Fin.ext ?_)
    match a with
    | ⟨0, _⟩ => exact Nat.zero_add _
    | ⟨1, _⟩ => rfl
  · refine congrArg₂ (· * ·) (h5 k) ?_
    refine congrArg w (funext fun a => Fin.ext ?_)
    match a with
    | ⟨0, _⟩ => rfl
    | ⟨1, _⟩ => rfl

end Cert.Proof.V

end
-- ==== Proof.ValRef.lean ====
/- The reference's term at the ideal instance: its scatters, gathers and products read as the same sums. -/
module

public import proofs.«01_k».proof.Proof.ValEmb
public import proofs.«01_k».proof.Proof.Gen.ReferenceIdeal.Run
public import Idealize.ShloMosaic.Lib.Routing.OpsPair
public import Idealize.ShloMosaic.Lib.Routing.OpsSet

@[expose] public section

noncomputable section

namespace Cert.Proof.V

open Cert.ReferenceIdeal Cert.ReferenceIdeal.Gen Cert.ReferenceIdeal.Value
open Idealize.ShloMosaic
open Cert.Proof.K hiding ix2

/-! ## The pieces of the reference's term -/

/-- Node numbers as a column of indices, a negative one counted from the end. -/
def wrap (v : IVec S16250 32) : IVec S16250x1 32 :=
  broadcastInDim S16250x1 ![0] bcast_S16250_S16250x1_0 (select (cmpi .slt v (broadcastInDim S16250 ![] bcast_S_S16250 (constantI S_ 32 0#32)))
    (addi v (broadcastInDim S16250 ![] bcast_S_S16250 (constantI S_ 32 250#32))) v)

/-- The messages along the edges. -/
def msgs (s d : IVec S16250 32) (r : FVec Ideal S250 .f32) (H : FVec Ideal S250x256 .f32) : FVec Ideal S16250x256 .f32 :=
  mulf (broadcastInDim S16250x256 ![0, 1] bcast_S16250x1_S16250x256_0_1 (broadcastInDim S16250x1 ![0] bcast_S16250_S16250x1_0
    (mulf (Host.gather gather_S250_S16250x1_S16250_n_0_n_n_0_1_1 r (wrap s)) (Host.gather gather_S250_S16250x1_S16250_n_0_n_n_0_1_1 r (wrap d)))))
    (Host.gather gather_S250x256_S16250x1_S16250x256_1_0_n_n_0_1_1256 H (wrap s))

/-- The messages added up at their ends, with the bias, and zero for what is negative. -/
def conv (s d : IVec S16250 32) (r : FVec Ideal S250 .f32) (H : FVec Ideal S250x256 .f32) (b : FVec Ideal S256 .f32) : FVec Ideal S250x256 .f32 :=
  maximumf (addf (Host.scatterAdd scatter_S250x256_S16250x1_S16250x256_1_0_0_1 (broadcastInDim S250x256 ![] bcast_S_S250x256 (constant S_ .f32 0x00000000#32))
    (wrap d) (msgs s d r H)) (broadcastInDim S250x256 ![0, 1] bcast_S1x256_S250x256_0_1 (broadcastInDim S1x256 ![1] bcast_S256_S1x256_1 b)))
    (broadcastInDim S250x256 ![] bcast_S_S250x256 (constant S_ .f32 0x00000000#32))

/-- The columns of the tokens as pairs of indices. -/
def pairs (V : Valuation τ sig (Elt Ideal)) : IVec S500x2 32 :=
  concatenate S500x2 1 [⟨S500x1, (broadcastInDim S500x1 ![0] bcast_S500_S500x1_0 (select (cmpi .slt (res_main_v26 V) (broadcastInDim S500 ![] bcast_S_S500 (constantI S_ 32 0#32))) (addi (res_main_v26 V) (broadcastInDim S500 ![] bcast_S_S500 (constantI S_ 32 250#32))) (res_main_v26 V)))⟩, ⟨S500x1, (broadcastInDim S500x1 ![0] bcast_S500_S500x1_0 (select (cmpi .slt (res_main_v28 V) (broadcastInDim S500 ![] bcast_S_S500 (constantI S_ 32 0#32))) (addi (res_main_v28 V) (broadcastInDim S500 ![] bcast_S_S500 (constantI S_ 32 2#32))) (res_main_v28 V)))⟩] concatenates_S500x1_S500x1_S500x2_d1

/-- The table of positions. -/
def table (V : Valuation τ sig (Elt Ideal)) : FVec Ideal S500x256 .f32 :=
  shapeCast S500x256 (concatenate S500x128x2 2 [⟨S500x128x1, (broadcastInDim S500x128x1 ![0, 1] bcast_S500x128_S500x128x1_0_1 (Host.sin (mulf (broadcastInDim S500x128 ![0, 1] bcast_S500x1_S500x128_0_1 (res_main_v1 V)) (broadcastInDim S500x128 ![0, 1] bcast_S1x128_S500x128_0_1 (broadcastInDim S1x128 ![1] bcast_S128_S1x128_1 (res_main_v9 V))))))⟩, ⟨S500x128x1, (broadcastInDim S500x128x1 ![0, 1] bcast_S500x128_S500x128x1_0_1 (Host.cos (mulf (broadcastInDim S500x128 ![0, 1] bcast_S500x1_S500x128_0_1 (res_main_v1 V)) (broadcastInDim S500x128 ![0, 1] bcast_S1x128_S500x128_0_1 (broadcastInDim S1x128 ![1] bcast_S128_S1x128_1 (res_main_v9 V))))))⟩] concatenates_S500x128x1_S500x128x1_S500x128x2_d2) shapeCasts_S500x128x2_S500x256

/-- The rows of the table set at the tokens' places. -/
def placed (x : IVec S500x2 32) (p : FVec Ideal S500x256 .f32) : FVec Ideal S250x2x256 .f32 :=
  Host.scatter scatter_S250x2x256_S500x2_S500x256_1_01_01_1 (fun _ b => b) (broadcastInDim S250x2x256 ![] bcast_S_S250x2x256 (constant S_ .f32 0x00000000#32)) x p

/-- The first product. -/
def first (e : FVec Ideal S250x2x256 .f32) (w : FVec Ideal S512x256 .f32) : FVec Ideal S250x256 .f32 :=
  Host.dotGeneral dot_S250x512_S512x256_S250x256_1_0_0_1_n_n none (shapeCast S250x512 e shapeCasts_S250x2x256_S250x512) w

/-- The second product. -/
def second (h : FVec Ideal S250x256 .f32) (w : FVec Ideal S256x256 .f32) : FVec Ideal S250x256 .f32 :=
  Host.dotGeneral dot_S250x256_S256x256_S250x256_1_0_0_1_n_n none h w

/-- The mean, the last product and the logistic. -/
def last (u : FVec Ideal S250x256 .f32) (w : FVec Ideal S256x1 .f32) (b : FVec Ideal S1 .f32) : FVec Ideal S1x1 .f32 :=
  Host.divf (broadcastInDim S1x1 ![] bcast_S_S1x1 (constant S_ .f32 0x3F800000#32)) (addf (broadcastInDim S1x1 ![] bcast_S_S1x1 (constant S_ .f32 0x3F800000#32)) (Host.exp (Host.negf (addf (Host.dotGeneral dot_S1x256_S256x1_S1x1_1_0_0_1_n_n none (Host.divf (broadcastInDim S1x256 ![1] bcast_S256_S1x256_1 (Host.reduceAdd u (constant S_ .f32 0x00000000#32) reducesTo_S250x256_S256_d0 h_S_)) (broadcastInDim S1x256 ![] bcast_S_S1x256 (constant S_ .f32 0x437A0000#32))) w) (broadcastInDim S1x1 ![1] bcast_S1_S1x1_1 b)))))

/-! ## The scatters' places -/

/-- The row a message is added to is its index. -/
theorem row_start0 (idx : IVec S16250x1 32) (e : Fin 16250) (c : Fin 256) :
    scatter_S250x256_S16250x1_S16250x256_1_0_0_1.start (ix2 e c) idx 0 = (idx (ix2 e 0)).toInt := by
  have h : scatter_S250x256_S16250x1_S16250x256_1_0_0_1.start (ix2 e c) idx 0
      = (idx (scatter_S250x256_S16250x1_S16250x256_1_0_0_1.siIdx (ix2 e c) ⟨0, Nat.zero_lt_one⟩)).toInt := rfl
  rw [h]
  congr 2
  funext a
  match a with
  | ⟨0, _⟩ => rfl
  | ⟨1, _⟩ => rfl

/-- The place a one is added to is its index. -/
theorem vec_start0 (idx : IVec S16250x1 32) (e : Fin 16250) :
    scatter_S250_S16250x1_S16250_n_0_0_1.start (ix1 e) idx 0 = (idx (ix2 e 0)).toInt := by
  have h : scatter_S250_S16250x1_S16250_n_0_0_1.start (ix1 e) idx 0
      = (idx (scatter_S250_S16250x1_S16250_n_0_0_1.siIdx (ix1 e) ⟨0, Nat.zero_lt_one⟩)).toInt := rfl
  rw [h]
  congr 2
  funext a
  match a with
  | ⟨0, _⟩ => rfl
  | ⟨1, _⟩ => rfl

/-- The node a row of the table is set at is its first index. -/
theorem place_start0 (idx : IVec S500x2 32) (e : Fin 500) (c : Fin 256) :
    scatter_S250x2x256_S500x2_S500x256_1_01_01_1.start (ix2 e c) idx 0 = (idx (ix2 e 0)).toInt := by
  have h : scatter_S250x2x256_S500x2_S500x256_1_01_01_1.start (ix2 e c) idx 0
      = (idx (scatter_S250x2x256_S500x2_S500x256_1_01_01_1.siIdx (ix2 e c) ⟨0, Nat.zero_lt_two⟩)).toInt := rfl
  rw [h]
  congr 2
  funext a
  match a with
  | ⟨0, _⟩ => rfl
  | ⟨1, _⟩ => rfl

/-- Its place at that node is its second index. -/
theorem place_start1 (idx : IVec S500x2 32) (e : Fin 500) (c : Fin 256) :
    scatter_S250x2x256_S500x2_S500x256_1_01_01_1.start (ix2 e c) idx 1 = (idx (ix2 e 1)).toInt := by
  have h : scatter_S250x2x256_S500x2_S500x256_1_01_01_1.start (ix2 e c) idx 1
      = (idx (scatter_S250x2x256_S500x2_S500x256_1_01_01_1.siIdx (ix2 e c) ⟨1, Nat.one_lt_two⟩)).toInt := rfl
  rw [h]
  congr 2
  funext a
  match a with
  | ⟨0, _⟩ => rfl
  | ⟨1, _⟩ => rfl

/-- A small number's word, read signed, is the number. -/
theorem toInt_small (k : ℕ) (h : k < 2 ^ 31) : (BitVec.ofNat 32 k).toInt = (k : ℤ) := by
  rw [BitVec.toInt_eq_toNat_cond, BitVec.toNat_ofNat, Nat.mod_eq_of_lt (by omega), if_pos (by omega)]

/-- Rows added at their ends: the sum of the rows that end there. -/
theorem row_sum (idx : IVec S16250x1 32) (f : ℕ → ℕ) (hf : ∀ e : Fin 16250, idx (ix2 e 0) = BitVec.ofNat 32 (f e.val)) (hl : ∀ e : Fin 16250, f e.val < 2 ^ 31)
    (u : FVec Ideal S16250x256 .f32) (z : FVec Ideal S250x256 .f32) (n : Fin 250) (c : Fin 256) (hz : z (ix2 n c) = 0) :
    Host.scatterAdd scatter_S250x256_S16250x1_S16250x256_1_0_0_1 z idx u (ix2 n c) = ∑ e : Fin 16250, if f e.val = n.val then u (ix2 e c) else 0 := by
  have hit : ∀ (e : Fin 16250) (k : Fin 256), scatter_S250x256_S16250x1_S16250x256_1_0_0_1.resultIdx? (ix2 e k) idx = some (ix2 n c) ↔ f e.val = n.val ∧ k = c := by
    intro e k
    refine (Routing.resultIdx?_ix2 scatter_S250x256_S16250x1_S16250x256_1_0_0_1 (ix2 e k) idx n c).trans ?_
    rw [row_start0, hf, toInt_small _ (hl e),
      show scatter_S250x256_S16250x1_S16250x256_1_0_0_1.start (ix2 e k) idx 1 = 0 from rfl,
      show scatter_S250x256_S16250x1_S16250x256_1_0_0_1.window (ix2 e k) 0 = 0 from rfl,
      show scatter_S250x256_S16250x1_S16250x256_1_0_0_1.window (ix2 e k) 1 = k.val from rfl, Fin.ext_iff]
    omega
  show Ideal.hostScatterAdd scatter_S250x256_S16250x1_S16250x256_1_0_0_1 z idx u (ix2 n c) = _
  show z (ix2 n c) + ∑ j with scatter_S250x256_S16250x1_S16250x256_1_0_0_1.resultIdx? j idx = some (ix2 n c), u j = _
  rw [hz, zero_add, Finset.sum_filter]
  refine (ValueIdx.sum_idx2 _).trans (Finset.sum_congr rfl fun e _ => ?_)
  rw [Finset.sum_eq_single c]
  · by_cases h : f e.val = n.val
    · rw [if_pos h]; exact if_pos ((hit e c).2 ⟨h, rfl⟩)
    · rw [if_neg h]; exact if_neg fun h2 => h ((hit e c).1 h2).1
  · intro k _ hk; exact if_neg fun h2 => hk ((hit e k).1 h2).2
  · intro h; exact absurd (Finset.mem_univ _) h

/-- Ones added at their ends. -/
theorem vec_sum (idx : IVec S16250x1 32) (f : ℕ → ℕ) (hf : ∀ e : Fin 16250, idx (ix2 e 0) = BitVec.ofNat 32 (f e.val)) (hl : ∀ e : Fin 16250, f e.val < 2 ^ 31)
    (u : FVec Ideal S16250 .f32) (z : FVec Ideal S250 .f32) (n : Fin 250) (hz : z (ix1 n) = 0) :
    Host.scatterAdd scatter_S250_S16250x1_S16250_n_0_0_1 z idx u (ix1 n) = ∑ e : Fin 16250, if f e.val = n.val then u (ix1 e) else 0 := by
  have hit : ∀ e : Fin 16250, scatter_S250_S16250x1_S16250_n_0_0_1.resultIdx? (ix1 e) idx = some (ix1 n) ↔ f e.val = n.val := by
    intro e
    refine (Routing.resultIdx?_ix1 scatter_S250_S16250x1_S16250_n_0_0_1 (ix1 e) idx n).trans ?_
    rw [vec_start0, hf, toInt_small _ (hl e),
      show scatter_S250_S16250x1_S16250_n_0_0_1.window (ix1 e) 0 = 0 from rfl]
    omega
  show Ideal.hostScatterAdd scatter_S250_S16250x1_S16250_n_0_0_1 z idx u (ix1 n) = _
  show z (ix1 n) + ∑ j with scatter_S250_S16250x1_S16250_n_0_0_1.resultIdx? j idx = some (ix1 n), u j = _
  rw [hz, zero_add, Finset.sum_filter]
  refine (Fintype.sum_equiv (⟨fun j => j 0, fun e => ix1 e, fun j => (ValueIdx.eq_ix1 j).symm, fun e => rfl⟩ : S16250.Idx ≃ Fin 16250) _
    (fun e => if f e.val = n.val then u (ix1 e) else 0) fun j => ?_)
  have hj : j = ix1 (j 0) := ValueIdx.eq_ix1 j
  generalize j 0 = e at hj
  subst hj
  by_cases h : f e.val = n.val
  · exact (if_pos ((hit e).2 h)).trans (if_pos h).symm
  · exact (if_neg fun h2 => h ((hit e).1 h2)).trans (if_neg h).symm

/-- An index that is not negative stays as it is. -/
theorem wrap_at (v : IVec S16250 32) (e : Fin 16250) (h : (v (ix1 e)).toNat < 2 ^ 31) : wrap v (ix2 e 0) = v (ix1 e) := by
  pointwise [wrap]
  exact Routing.wrap_of_lt _ _ h

/-! ## The layers -/

/-- A matrix of the nodes' features by node number. -/
def featR (H : FVec Ideal S250x256 .f32) (m : ℕ) (k : Fin 256) : EReal := if hm : m < 250 then H (ix2 ⟨m, hm⟩ k) else 0

section Layers

variable (E : S2x16000.Idx → BitVec 32) (hE : ∀ x, (E x).toNat < 250)
variable (s d : IVec S16250 32) (hs : ∀ e : Fin 16250, s (ix1 e) = BitVec.ofNat 32 (en E 0 e.val)) (hd : ∀ e : Fin 16250, d (ix1 e) = BitVec.ofNat 32 (en E 1 e.val))
variable (r : FVec Ideal S250 .f32) (hr : ∀ n : Fin 250, r (ix1 n) = (dv E n.val : EReal))

include hE in
/-- The column of indices of the edges' ends. -/
theorem ends_at (a : Fin 2) (v : IVec S16250 32) (hv : ∀ e : Fin 16250, v (ix1 e) = BitVec.ofNat 32 (en E a e.val)) (e : Fin 16250) :
    wrap v (ix2 e 0) = BitVec.ofNat 32 (en E a e.val) := by
  have h := en_lt E hE a e.val e.isLt
  rw [wrap_at v e (by rw [hv, BitVec.toNat_ofNat]; omega), hv]

include hE hs hd hr in
/-- One message. -/
theorem msgs_at (H : FVec Ideal S250x256 .f32) (e : Fin 16250) (c : Fin 256) :
    msgs s d r H (ix2 e c) = ((dv E (en E 0 e.val) : EReal) * (dv E (en E 1 e.val) : EReal)) * featR H (en E 0 e.val) c := by
  have h0 := en_lt E hE 0 e.val e.isLt
  have h1 := en_lt E hE 1 e.val e.isLt
  have g0 : Host.gather gather_S250_S16250x1_S16250_n_0_n_n_0_1_1 r (wrap s) (ix1 e) = (dv E (en E 0 e.val) : EReal) :=
    (Routing.gather_take1 gather_S250_S16250x1_S16250_n_0_n_n_0_1_1 rfl rfl rfl rfl r (wrap s) e ⟨_, h0⟩ (ends_at E hE 0 s hs e) (by norm_num)).trans (hr _)
  have g1 : Host.gather gather_S250_S16250x1_S16250_n_0_n_n_0_1_1 r (wrap d) (ix1 e) = (dv E (en E 1 e.val) : EReal) :=
    (Routing.gather_take1 gather_S250_S16250x1_S16250_n_0_n_n_0_1_1 rfl rfl rfl rfl r (wrap d) e ⟨_, h1⟩ (ends_at E hE 1 d hd e) (by norm_num)).trans (hr _)
  have g2 : Host.gather gather_S250x256_S16250x1_S16250x256_1_0_n_n_0_1_1256 H (wrap s) (ix2 e c) = featR H (en E 0 e.val) c :=
    (Routing.gather_row gather_S250x256_S16250x1_S16250x256_1_0_n_n_0_1_1256 rfl rfl rfl rfl rfl H (wrap s) e c ⟨_, h0⟩ (ends_at E hE 0 s hs e) (by norm_num)).trans
      (by rw [featR, dif_pos h0]; rfl)
  have hm : msgs s d r H (ix2 e c) = Host.gather gather_S250_S16250x1_S16250_n_0_n_n_0_1_1 r (wrap s) (ix1 e) * Host.gather gather_S250_S16250x1_S16250_n_0_n_n_0_1_1 r (wrap d) (ix1 e)
      * Host.gather gather_S250x256_S16250x1_S16250x256_1_0_n_n_0_1_1256 H (wrap s) (ix2 e c) := by
    pointwise [msgs]
  rw [hm, g0, g1, g2]

include hE hs hd hr in
/-- One layer. -/
theorem conv_at (H : FVec Ideal S250x256 .f32) (b : FVec Ideal S256 .f32) (n : Fin 250) (c : Fin 256) :
    conv s d r H b (ix2 n c) = layer E (featR H) (fun k => b (ix1 k)) n.val c := by
  have hz : broadcastInDim S250x256 ![] bcast_S_S250x256 (constant (F := Ideal) S_ .f32 0x00000000#32) (ix2 n c) = 0 := by pointwise
  have hsum := row_sum (wrap d) (en E 1) (ends_at E hE 1 d hd) (fun e => by have := en_lt E hE 1 e.val e.isLt; omega) (msgs s d r H)
    (broadcastInDim S250x256 ![] bcast_S_S250x256 (constant S_ .f32 0x00000000#32)) n c hz
  have hc : conv s d r H b (ix2 n c) = max (Host.scatterAdd scatter_S250x256_S16250x1_S16250x256_1_0_0_1
      (broadcastInDim S250x256 ![] bcast_S_S250x256 (constant S_ .f32 0x00000000#32)) (wrap d) (msgs s d r H) (ix2 n c) + b (ix1 c)) 0 := by
    pointwise [conv]
  rw [hc, hsum]
  simp only [msgs_at E hE s d hs hd r hr]
  rfl

end Layers

/-- One over the root of a degree by a division. -/
theorem inv_div (k : ℕ) : (if (0 : EReal) < ((k : ℕ) : EReal) then Ideal.div 1 (Ideal.sqrt ((k : ℕ) : EReal)) else 0) = (((Real.sqrt k)⁻¹ : ℝ) : EReal) := by
  by_cases h : k = 0
  · subst h; simp
  · have hk : (0 : ℝ) < k := by exact_mod_cast Nat.pos_of_ne_zero h
    have e : ((k : ℕ) : EReal) = ((k : ℝ) : EReal) := (EReal.coe_natCast).symm
    have hs : (0 : ℝ) < Real.sqrt k := Real.sqrt_pos.2 hk
    have hq : Ideal.sqrt ((k : ℝ) : EReal) = ((Real.sqrt k : ℝ) : EReal) := by
      show (if (k : ℝ) < 0 then (⊥ : EReal) else ((Real.sqrt k : ℝ) : EReal)) = _
      rw [if_neg hk.not_gt]
    have hne : ((Real.sqrt k : ℝ) : EReal) ≠ 0 := by exact_mod_cast hs.ne'
    rw [if_pos (by rw [e]; exact_mod_cast hk), e, hq, Ideal.div, if_neg hne, one_mul, EReal.coe_inv]

/-- One over the root of a vector, zero where it is zero. -/
def roots (y : FVec Ideal S250 .f32) : FVec Ideal S250 .f32 :=
  select (cmpf .ogt y (broadcastInDim S250 ![] bcast_S_S250 (constant S_ .f32 0x00000000#32))) (Host.divf (broadcastInDim S250 ![] bcast_S_S250 (constant S_ .f32 0x3F800000#32)) (Host.sqrt y)) (broadcastInDim S250 ![] bcast_S_S250 (constant S_ .f32 0x00000000#32))

/-- An entry of `roots`. -/
theorem roots_at (y : FVec Ideal S250 .f32) (n : Fin 250) :
    roots y (ix1 n) = if (0 : EReal) < y (ix1 n) then Ideal.div 1 (Ideal.sqrt (y (ix1 n))) else 0 := by
  pointwise [roots]

/-- A word of the edge list, as a number. -/
theorem wd_at (E : S2x16000.Idx → BitVec 32) (a : Fin 2) (e : ℕ) (h : e < 16000) : wd E a e = (E (ix2 a ⟨e, h⟩)).toNat := by
  unfold wd
  rw [dif_pos h]
  congr 2
  funext b
  match b with
  | ⟨0, _⟩ => rfl
  | ⟨1, _⟩ => rfl

section Whole

variable (V : Valuation τ sig (Elt Ideal))

/-- The edge list. -/
def edgesV : S2x16000.Idx → BitVec 32 := V (Proc.devRef .tc main_arg1)

variable (hE : ∀ x, (edgesV V x).toNat < 250)

/-- The word of a word's number is the word. -/
theorem ofNat_toNat (x : BitVec 32) : BitVec.ofNat 32 x.toNat = x := by
  apply BitVec.eq_of_toNat_eq; rw [BitVec.toNat_ofNat]; exact Nat.mod_eq_of_lt x.isLt

/-- The sources, the loops at the end. -/
theorem src_at (e : Fin 16250) : res_main_v47 V (ix1 e) = BitVec.ofNat 32 (en (edgesV V) 0 e.val) := by
  have h : res_main_v47 V (ix1 e) = if h : e.val < 16000 then edgesV V (ix2 0 ⟨e.val, h⟩) else BitVec.ofNat 32 (e.val - 16000) := by
    pointwise [res_main_v47, res_main_v44]
    rfl
  rw [h]
  unfold en
  by_cases he : e.val < 16000
  · rw [dif_pos he, if_pos he, wd_at _ _ _ he]; exact (ofNat_toNat _).symm
  · rw [dif_neg he, if_neg he]

/-- The destinations, the loops at the end. -/
theorem dst_at (e : Fin 16250) : res_main_v50 V (ix1 e) = BitVec.ofNat 32 (en (edgesV V) 1 e.val) := by
  have h : res_main_v50 V (ix1 e) = if h : e.val < 16000 then edgesV V (ix2 1 ⟨e.val, h⟩) else BitVec.ofNat 32 (e.val - 16000) := by
    pointwise [res_main_v50, res_main_v44]
    rfl
  rw [h]
  unfold en
  by_cases he : e.val < 16000
  · rw [dif_pos he, if_pos he, wd_at _ _ _ he]; exact (ofNat_toNat _).symm
  · rw [dif_neg he, if_neg he]

include hE in
/-- The degrees. -/
theorem deg_at (n : Fin 250) : res_main_v59 V (ix1 n) = ((dg (edgesV V) n.val : ℕ) : EReal) := by
  have hz : broadcastInDim S250 ![] bcast_S_S250 (constant (F := Ideal) S_ .f32 0x00000000#32) (ix1 n) = 0 := by pointwise
  have h : res_main_v59 V (ix1 n) = ∑ e : Fin 16250, if en (edgesV V) 1 e.val = n.val then
      broadcastInDim S16250 ![] bcast_S_S16250 (constant (F := Ideal) S_ .f32 0x3F800000#32) (ix1 e) else 0 :=
    vec_sum (wrap (res_main_v50 V)) (en (edgesV V) 1) (ends_at (edgesV V) hE 1 (res_main_v50 V) (dst_at V))
      (fun e => by have := en_lt (edgesV V) hE 1 e.val e.isLt; omega) _ _ n hz
  have h1 : ∀ e : Fin 16250, broadcastInDim S16250 ![] bcast_S_S16250 (constant (F := Ideal) S_ .f32 0x3F800000#32) (ix1 e) = (1 : EReal) := fun e => by pointwise
  rw [h]
  simp only [h1]
  rw [dg, ← mul_one ((Nat.count _ _ : ℕ) : EReal), count_mul]

include hE in
/-- The scales. -/
theorem scale_at (n : Fin 250) : res_main_v65 V (ix1 n) = (dv (edgesV V) n.val : EReal) := by
  have h : res_main_v65 V (ix1 n) = if (0 : EReal) < res_main_v59 V (ix1 n) then Ideal.div 1 (Ideal.sqrt (res_main_v59 V (ix1 n))) else 0 := by
    exact roots_at (res_main_v59 V) n
  rw [h, deg_at V hE]
  exact inv_div _

/-! ## The rows at their places -/

/-- A word below two, read signed, is its number. -/
theorem toNat_word (v : BitVec 32) (h : v.toNat < 2) : v.toInt = (v.toNat : ℤ) := by
  rw [BitVec.toInt_eq_toNat_cond, if_pos (by omega)]

/-- What stands at a place: the row of the last token that names it. -/
theorem placed_at (X : S2x500.Idx → BitVec 32) (hX : ∀ y, (X y).toNat < 2) (x : IVec S500x2 32)
    (hx0 : ∀ t : Fin 500, x (ix2 t 0) = X (ix2 0 t)) (hx1 : ∀ t : Fin 500, x (ix2 t 1) = X (ix2 1 t))
    (p : FVec Ideal S500x256 .f32) (n : Fin 250) (h : Fin 2) (k : Fin 256) :
    placed x p (ix3 n h k) = emb X (fun t k => if ht : t < 500 then p (ix2 ⟨t, ht⟩ k) else 0) n.val h.val k := by
  have hnum : S500x256.numel = 500 * 256 := rfl
  have hz : broadcastInDim S250x2x256 ![] bcast_S_S250x2x256 (constant (F := Ideal) S_ .f32 0x00000000#32) (ix3 n h k) = 0 := by pointwise
  unfold placed
  rw [Routing.scatter_at, hz]
  -- the updates are the table's entries in row-major order
  have hsym : ∀ i : Fin S500x256.numel, S500x256.rowMajor.symm i
      = ix2 (⟨i.val / 256, by have := i.isLt; omega⟩ : Fin 500) (⟨i.val % 256, Nat.mod_lt _ (by norm_num)⟩ : Fin 256) := fun i => Routing.symm22 i _ _
  have hit : ∀ i : Fin S500x256.numel, scatter_S250x2x256_S500x2_S500x256_1_01_01_1.resultIdx? (S500x256.rowMajor.symm i) x = some (ix3 n h k)
      ↔ (Names X n.val h.val (i.val / 256) ∧ i.val % 256 = k.val) := by
    intro i
    have hi : i.val / 256 < 500 := by have := i.isLt; omega
    rw [hsym i, Routing.resultIdx?_eq_some]
    generalize ha : (⟨i.val / 256, hi⟩ : Fin 500) = t
    generalize hb : (⟨i.val % 256, Nat.mod_lt _ (by norm_num)⟩ : Fin 256) = c
    have hat : i.val / 256 = t.val := by rw [← ha]
    have hbc : i.val % 256 = c.val := by rw [← hb]
    rw [hat, hbc]
    unfold Names tok
    rw [dif_pos t.isLt, dif_pos t.isLt]
    have s0 := place_start0 x t c
    have s1 := place_start1 x t c
    rw [hx0, toNat_word _ (hX _)] at s0
    rw [hx1, toNat_word _ (hX _)] at s1
    constructor
    · intro hall
      have e0 := hall 0; have e1 := hall 1; have e2 := hall 2
      rw [s0] at e0; rw [s1] at e1
      have e0' : ((X (ix2 0 t)).toNat : ℤ) + ((0 : ℕ) : ℤ) = (n.val : ℤ) := e0
      have e1' : ((X (ix2 1 t)).toNat : ℤ) + ((0 : ℕ) : ℤ) = (h.val : ℤ) := e1
      have e2' : (0 : ℤ) + ((c.val : ℕ) : ℤ) = (k.val : ℤ) := e2
      exact ⟨⟨by show (X (ix2 0 t)).toNat = _; omega, by show (X (ix2 1 t)).toNat = _; omega⟩, by omega⟩
    · rintro ⟨⟨e0, e1⟩, e2⟩ a
      have e0' : (X (ix2 0 t)).toNat = n.val := e0
      have e1' : (X (ix2 1 t)).toNat = h.val := e1
      match a with
      | ⟨0, _⟩ =>
        refine (congrArg (· + _) s0).trans ?_
        show ((X (ix2 0 t)).toNat : ℤ) + ((0 : ℕ) : ℤ) = (n.val : ℤ); omega
      | ⟨1, _⟩ =>
        refine (congrArg (· + _) s1).trans ?_
        show ((X (ix2 1 t)).toNat : ℤ) + ((0 : ℕ) : ℤ) = (h.val : ℤ); omega
      | ⟨2, _⟩ =>
        show (0 : ℤ) + ((c.val : ℕ) : ℤ) = (k.val : ℤ); omega
  have hfold := foldl_pick S500x256.numel (fun i => Names X n.val h.val (i / 256) ∧ i % 256 = k.val)
    (fun i => if ht : i / 256 < 500 then p (ix2 ⟨i / 256, ht⟩ k) else 0)
    (fun i => scatter_S250x2x256_S500x2_S500x256_1_01_01_1.resultIdx? (S500x256.rowMajor.symm i) x = some (ix3 n h k))
    (fun i => p (S500x256.rowMajor.symm i)) hit fun i hi => by
      have hk := ((hit i).1 hi).2
      have h5 : i.val / 256 < 500 := by have := i.isLt; omega
      rw [dif_pos h5, hsym i]
      exact congrArg p (congrArg (ix2 _) (Fin.ext hk))
  refine Eq.trans ?_ (hfold.trans ?_)
  · rfl
  · unfold emb
    rw [hnum]
    rcases last_cases (Names X n.val h.val) 500 with hno | ⟨t, ht, hq, hl⟩
    · rw [pick_none _ _ _ hno, pick_none]
      rintro i hi ⟨h1, -⟩; exact hno _ (by omega) h1
    · rw [pick_last _ _ _ t ht hq hl, pick_last _ _ _ (t * 256 + k.val) (by omega)]
      · have : (t * 256 + k.val) / 256 = t := by omega
        simp only [this]
      · have : (t * 256 + k.val) / 256 = t := by omega
        rw [this]; exact ⟨hq, by omega⟩
      · rintro i h1 h2 ⟨h3, h4⟩
        exact hl (i / 256) (by omega) (by omega) h3

/-- The pair of indices of a token is its column. -/
theorem pairs_at (X : S2x500.Idx → BitVec 32) (hX : ∀ y, (X y).toNat < 2) (hV : V (Proc.devRef .tc main_arg0) = X) (t : Fin 500) :
    pairs V (ix2 t 0) = X (ix2 0 t) ∧ pairs V (ix2 t 1) = X (ix2 1 t) := by
  subst hV
  constructor
  · have h : pairs V (ix2 t 0) = Scalar.select (IntOp.cmpi .slt (V (Proc.devRef .tc main_arg0) (ix2 0 t)) 0#32)
        (IntOp.addi (V (Proc.devRef .tc main_arg0) (ix2 0 t)) 250#32) (V (Proc.devRef .tc main_arg0) (ix2 0 t)) := by
      pointwise [pairs, res_main_v26, res_main_v28]
    exact h.trans (Routing.wrap_of_lt _ _ (Nat.lt_trans (hX _) (by norm_num)))
  · have h : pairs V (ix2 t 1) = Scalar.select (IntOp.cmpi .slt (V (Proc.devRef .tc main_arg0) (ix2 1 t)) 0#32)
        (IntOp.addi (V (Proc.devRef .tc main_arg0) (ix2 1 t)) 2#32) (V (Proc.devRef .tc main_arg0) (ix2 1 t)) := by
      pointwise [pairs, res_main_v26, res_main_v28]
    exact h.trans (Routing.wrap_of_lt _ _ (Nat.lt_trans (hX _) (by norm_num)))

/-- The first product, its columns split in the two places. -/
theorem first_at (e : FVec Ideal S250x2x256 .f32) (X : S2x500.Idx → BitVec 32) (P : ℕ → Fin 256 → EReal)
    (he : ∀ (n : Fin 250) (h : Fin 2) (k : Fin 256), e (ix3 n h k) = emb X P n.val h.val k) (w : FVec Ideal S512x256 .f32) (n : Fin 250) (c : Fin 256) :
    first e w (ix2 n c) = emb1 X P (fun k c => w (ix2 k c)) n.val c := by
  have h : first e w (ix2 n c) = ∑ i : Fin 512, e (ix3 n (⟨i.val / 256, by omega⟩ : Fin 2) (⟨i.val % 256, by omega⟩ : Fin 256)) * w (ix2 i c) := by
    pointwise [first]
  rw [h]
  simp only [he]
  rw [show (∑ i : Fin 512, emb X P n.val (i.val / 256) ⟨i.val % 256, by omega⟩ * w (ix2 i c))
    = ∑ i : Fin (256 + 256), emb X P n.val (i.val / 256) ⟨i.val % 256, by omega⟩ * w (ix2 i c) from rfl, Fin.sum_univ_add]
  unfold emb1
  refine congrArg₂ (· + ·) (Finset.sum_congr rfl fun k _ => ?_) (Finset.sum_congr rfl fun k _ => ?_)
  · have h1 : (Fin.castAdd 256 k).val / 256 = 0 := by show k.val / 256 = 0; omega
    have h2 : (⟨(Fin.castAdd 256 k).val % 256, by omega⟩ : Fin 256) = k := Fin.ext (by show k.val % 256 = k.val; omega)
    rw [h1, h2]; rfl
  · have h1 : (Fin.natAdd 256 k).val / 256 = 1 := by show (256 + k.val) / 256 = 1; omega
    have h2 : (⟨(Fin.natAdd 256 k).val % 256, by omega⟩ : Fin 256) = k := Fin.ext (by show (256 + k.val) % 256 = k.val; omega)
    rw [h1, h2]; rfl

/-- The count of nodes as a float word. -/
theorem ofBits_nodes : Ideal.ofBits .f32 0x437A0000#32 = ((250 : ℝ) : EReal) := by
  simp [Ideal.ofBits, Ideal.ieee, -EReal.coe_mul]; norm_num

/-- The last lines at their one place: the logistic of the mean's product. -/
theorem last_at (u : FVec Ideal S250x256 .f32) (w : FVec Ideal S256x1 .f32) (b : FVec Ideal S1 .f32) :
    last u w b (ix2 0 0) = Ideal.logistic (∑ c : Fin 256, ((∑ n : Fin 250, u (ix2 n c)) * ((250⁻¹ : ℝ) : EReal)) * w (ix2 c 0) + b (ix1 0)) := by
  have h : last u w b (ix2 0 0) = Ideal.logistic (∑ c : Fin 256, Ideal.div (∑ n : Fin 250, u (ix2 n c)) (Ideal.ofBits .f32 0x437A0000#32) * w (ix2 c 0) + b (ix1 0)) := by
    pointwise [last]
    rfl
  have h2 : ∀ y : EReal, Ideal.div y (Ideal.ofBits .f32 0x437A0000#32) = y * ((250⁻¹ : ℝ) : EReal) := fun y => by
    have hne : ((250 : ℝ) : EReal) ≠ 0 := by exact_mod_cast (by norm_num : (250 : ℝ) ≠ 0)
    rw [ofBits_nodes, Ideal.div, if_neg hne, EReal.coe_inv]
  rw [h]
  simp only [h2]

/-- An entry of the second product. -/
theorem second_at (h : FVec Ideal S250x256 .f32) (w : FVec Ideal S256x256 .f32) (n : Fin 250) (c : Fin 256) :
    second h w (ix2 n c) = ∑ k : Fin 256, h (ix2 n k) * w (ix2 k c) := by
  pointwise [second]

/-- The reference's composed term. -/
def refTerm : FVec Ideal S1x1 .f32 :=
  last (conv (res_main_v107 V) (res_main_v110 V) (res_main_v125 V)
    (second (conv (res_main_v47 V) (res_main_v50 V) (res_main_v65 V) (first (placed (pairs V) (table V)) (V (Proc.devRef .tc main_arg2))) (V (Proc.devRef .tc main_arg3)))
      (V (Proc.devRef .tc main_arg4))) (V (Proc.devRef .tc main_arg5))) (V (Proc.devRef .tc main_arg6)) (V (Proc.devRef .tc main_arg7))

include hE in
/-- The reference's value. -/
theorem ref_total (X : S2x500.Idx → BitVec 32) (hX : ∀ y, (X y).toNat < 2) (hV : V (Proc.devRef .tc main_arg0) = X)
    (W : FVec Ideal S512x256 .f32) (hW : V (Proc.devRef .tc main_arg2) = W) (b1 b2 : FVec Ideal S256 .f32) (h1 : V (Proc.devRef .tc main_arg3) = b1) (h2 : V (Proc.devRef .tc main_arg5) = b2)
    (W2 : FVec Ideal S256x256 .f32) (hW2 : V (Proc.devRef .tc main_arg4) = W2) (wf : FVec Ideal S256x1 .f32) (hwf : V (Proc.devRef .tc main_arg6) = wf)
    (bf : FVec Ideal S1 .f32) (hbf : V (Proc.devRef .tc main_arg7) = bf) :
    refTerm V (ix2 0 0) = total (edgesV V)
      (emb1 X (fun t k => if ht : t < 500 then table V (ix2 ⟨t, ht⟩ k) else 0) (fun k c => W (ix2 k c)))
      (fun k => b1 (ix1 k)) (fun k j => W2 (ix2 k j)) (fun k => b2 (ix1 k)) (fun k => wf (ix2 k 0)) (bf (ix1 0)) := by
  have hfirst : ∀ (m : ℕ), m < 250 → ∀ c, featR (first (placed (pairs V) (table V)) (V (Proc.devRef .tc main_arg2))) m c
      = emb1 X (fun t k => if ht : t < 500 then table V (ix2 ⟨t, ht⟩ k) else 0) (fun k c => W (ix2 k c)) m c := fun m hm c => by
    rw [featR, dif_pos hm, hW]
    exact first_at _ X _ (placed_at X hX (pairs V) (fun t => (pairs_at V X hX hV t).1) (fun t => (pairs_at V X hX hV t).2) (table V)) W ⟨m, hm⟩ c
  rw [← total_congr (edgesV V) hE _ _ hfirst]
  unfold refTerm
  rw [last_at]
  simp only [show res_main_v107 V = res_main_v47 V from rfl, show res_main_v110 V = res_main_v50 V from rfl, show res_main_v125 V = res_main_v65 V from rfl,
    conv_at (edgesV V) hE _ _ (src_at V) (dst_at V) _ (scale_at V hE)]
  generalize first (placed (pairs V) (table V)) (V (Proc.devRef .tc main_arg2)) = H
  have hl : ∀ (n : ℕ) (c : Fin 256), layer (edgesV V) (featR (second (conv (res_main_v47 V) (res_main_v50 V) (res_main_v65 V) H (V (Proc.devRef .tc main_arg3))) (V (Proc.devRef .tc main_arg4))))
        (fun k => b2 (ix1 k)) n c
      = layer (edgesV V) (prod (layer (edgesV V) (featR H) fun k => b1 (ix1 k)) fun k j => W2 (ix2 k j)) (fun k => b2 (ix1 k)) n c := fun n c => by
    unfold layer
    rw [lay_congr (edgesV V) hE _ (fun m => prod (layer (edgesV V) (featR H) fun k => b1 (ix1 k)) (fun k j => W2 (ix2 k j)) m c) fun m hm => ?_]
    · rfl
    · show featR _ m c = _
      rw [featR, dif_pos hm, second_at]
      simp only [conv_at (edgesV V) hE _ _ (src_at V) (dst_at V) _ (scale_at V hE), h1, hW2]
      rfl
  simp only [h2, hl, hwf, hbf]
  rfl

/-- The term of the reference's run is that one. -/
theorem refTerm_eq : val4 V (Proc.devRef .tc main_v176) = refTerm V := (val4_main_v176 V).trans rfl

end Whole

end Cert.Proof.V

end
-- ==== Proof.Algebraic.lean ====
/- The kernel's result and the reference's at the ideal instance: one number of the arguments. -/
module

public import proofs.«01_k».proof.Proof.Frames
public import proofs.«01_k».proof.Proof.ValRef

@[expose] public section

noncomputable section

namespace Cert.Proof.V

open Idealize.ShloMosaic Idealize.ShloMosaic.TcCoe
open Idealize.SL.Sem
open Idealize.ShloMosaic.StableHlo (seq after held)
open Cert.Proof.K hiding ix2

/-- The only index of a one-by-one array. -/
theorem one_idx (j : (⟨2, ![1, 1]⟩ : Shape).Idx) : j = ix2 0 0 := by
  funext a
  match a with
  | ⟨0, h⟩ => exact Fin.ext (Nat.lt_one_iff.1 (j ⟨0, h⟩).isLt)
  | ⟨1, h⟩ => exact Fin.ext (Nat.lt_one_iff.1 (j ⟨1, h⟩).isLt)

section Kernel

open Cert.KernelIdeal Cert.KernelIdeal.Gen

variable (m : (ℓ : Loc nD τ sig) → Buf (Elt Ideal) ℓ) (d : Dev nD)

/-- The kernel's padded table is the reference's, and twelve rows of zeros. -/
theorem table_padded (V : Valuation Cert.ReferenceIdeal.τ Cert.ReferenceIdeal.sig (Elt Ideal)) :
    A1 m d main_v21 = concatenate S512x256 0 [⟨S500x256, table V⟩, ⟨S12x256, broadcastInDim S12x256 ![] bcast_S_S12x256 (constant (F := Ideal) S_ .f32 0x00000000#32)⟩]
      concatenates_S500x256_S12x256_S512x256_d0 := by
  unfold A1 ops1
  after_results_simp
  rfl

/-- Below the padding, a row of the kernel's table is the reference's. -/
theorem row_table (V : Valuation Cert.ReferenceIdeal.τ Cert.ReferenceIdeal.sig (Elt Ideal)) (t : ℕ) (ht : t < 500) (k : Fin 256) :
    rowOf (A1 m d main_v21) t k = table V (ix2 ⟨t, ht⟩ k) := by
  rw [table_padded m d V, rowOf, dif_pos (by omega)]
  generalize table V = y
  have h : ∀ s : Fin 512, (concatenate S512x256 0 [⟨S500x256, y⟩, ⟨S12x256, broadcastInDim S12x256 ![] bcast_S_S12x256 (constant (F := Ideal) S_ .f32 0x00000000#32)⟩]
      concatenates_S500x256_S12x256_S512x256_d0 : FVec Ideal S512x256 .f32) (ix2 s k) = if h : s.val < 500 then y (ix2 ⟨s.val, h⟩ k) else 0 := fun s => by
    pointwise
  rw [h]
  exact dif_pos ht

/-- The kernel's result, as the regions' payloads of the arguments and the table. -/
theorem kernel_term : A5 m d main_v27 = tc2Val (F := Ideal) (counts (F := Ideal) (edges m d))
    (tc1Val (F := Ideal) (m ((d.tc : Thread nD τ).loc main_arg0)) (A1 m d main_v21) (m ((d.tc : Thread nD τ).loc main_arg2)))
    (shapeCast S1x256 (m ((d.tc : Thread nD τ).loc main_arg3)) shapeCasts_S256_S1x256) (m ((d.tc : Thread nD τ).loc main_arg4))
    (shapeCast S1x256 (m ((d.tc : Thread nD τ).loc main_arg5)) shapeCasts_S256_S1x256) (m ((d.tc : Thread nD τ).loc main_arg6))
    (shapeCast S1x1 (m ((d.tc : Thread nD τ).loc main_arg7)) shapeCasts_S1_S1x1) := by
  have k4 : ∀ b : Ref sig .tc, A4 m d b = A3 m d b → b ≠ main_v22 → b ≠ main_v23 → A1 m d b = A0 m d b → A4 m d b = m ((d.tc : Thread nD τ).loc b) :=
    fun b h h22 h23 h1 => h.trans ((A3_ne m d b h23).trans ((A2_ne m d b h22).trans h1))
  have k3 : ∀ b : Ref sig .tc, b ≠ main_v22 → b ≠ main_v23 → A1 m d b = A0 m d b → A3 m d b = m ((d.tc : Thread nD τ).loc b) :=
    fun b h22 h23 h1 => (A3_ne m d b h23).trans ((A2_ne m d b h22).trans h1)
  have a0 : A1 m d main_arg0 = A0 m d main_arg0 := by unfold A1 ops1; after_results_simp
  have a2 : A1 m d main_arg2 = A0 m d main_arg2 := by unfold A1 ops1; after_results_simp
  have a3 : A1 m d main_arg3 = A0 m d main_arg3 := by unfold A1 ops1; after_results_simp
  have a4 : A1 m d main_arg4 = A0 m d main_arg4 := by unfold A1 ops1; after_results_simp
  have a5 : A1 m d main_arg5 = A0 m d main_arg5 := by unfold A1 ops1; after_results_simp
  have a6 : A1 m d main_arg6 = A0 m d main_arg6 := by unfold A1 ops1; after_results_simp
  have a7 : A1 m d main_arg7 = A0 m d main_arg7 := by unfold A1 ops1; after_results_simp
  have b4 : A4 m d main_arg4 = A3 m d main_arg4 := by unfold A4 ops2; after_results_simp
  have b6 : A4 m d main_arg6 = A3 m d main_arg6 := by unfold A4 ops2; after_results_simp
  have e22 : A4 m d main_v22 = A3 m d main_v22 := by unfold A4 ops2; after_results_simp
  have e23 : A4 m d main_v23 = A3 m d main_v23 := by unfold A4 ops2; after_results_simp
  have e24 : A4 m d main_v24 = shapeCast S1x256 (A3 m d main_arg3) shapeCasts_S256_S1x256 := by unfold A4 ops2; after_results_simp; rfl
  have e25 : A4 m d main_v25 = shapeCast S1x256 (A3 m d main_arg5) shapeCasts_S256_S1x256 := by unfold A4 ops2; after_results_simp; rfl
  have e26 : A4 m d main_v26 = shapeCast S1x1 (A3 m d main_arg7) shapeCasts_S1_S1x1 := by unfold A4 ops2; after_results_simp; rfl
  refine (A5_out m d).trans ((out2_eq (W4 m) d).trans ?_)
  have f22 : A3 m d main_v22 = tc1Val (F := Ideal) (m ((d.tc : Thread nD τ).loc main_arg0)) (A1 m d main_v21) (m ((d.tc : Thread nD τ).loc main_arg2)) := by
    refine (A3_ne m d _ (by decide)).trans ((A2_out m d).trans ((out0_eq (W1 m) d).trans ?_))
    show tc1Val (F := Ideal) (A1 m d main_arg0) (A1 m d main_v21) (A1 m d main_arg2) = _
    rw [a0, a2]; rfl
  show tc2Val (F := Ideal) (A4 m d main_v23) (A4 m d main_v22) (A4 m d main_v24) (A4 m d main_arg4) (A4 m d main_v25) (A4 m d main_arg6) (A4 m d main_v26) = _
  rw [e23, A3_out, e22, f22, e24, e25, e26, k3 main_arg3 (by decide) (by decide) a3, k3 main_arg5 (by decide) (by decide) a5, k3 main_arg7 (by decide) (by decide) a7,
    k4 main_arg4 b4 (by decide) (by decide) a4, k4 main_arg6 b6 (by decide) (by decide) a6]

/-- The kernel's result as the network of the embedded tokens. -/
theorem kernel_total (V : Valuation Cert.ReferenceIdeal.τ Cert.ReferenceIdeal.sig (Elt Ideal))
    (hE : ∀ x, (edges m d x).toNat < 250)
    (X : Vec Ideal S2x500 .i32) (hX : ∀ y, (X y).toNat < 2) (e0 : m ((d.tc : Thread nD τ).loc main_arg0) = X)
    (W : Vec Ideal S512x256 .f32) (e2 : m ((d.tc : Thread nD τ).loc main_arg2) = W) (b1 b2 : Vec Ideal S256 .f32)
    (e3 : m ((d.tc : Thread nD τ).loc main_arg3) = b1) (e5 : m ((d.tc : Thread nD τ).loc main_arg5) = b2)
    (W2 : Vec Ideal S256x256 .f32) (e4 : m ((d.tc : Thread nD τ).loc main_arg4) = W2)
    (wf : Vec Ideal S256x1 .f32) (e6 : m ((d.tc : Thread nD τ).loc main_arg6) = wf)
    (bf : Vec Ideal S1 .f32) (e7 : m ((d.tc : Thread nD τ).loc main_arg7) = bf) :
    (A5 m d main_v27 : Vec Ideal S1x1 .f32) (ix2 0 0) = total (edges m d)
      (emb1 X (fun t k => if ht : t < 500 then table V (ix2 ⟨t, ht⟩ k) else 0) (fun k c => W (ix2 k c)))
      (fun k => b1 (ix1 k)) (fun k j => W2 (ix2 k j)) (fun k => b2 (ix1 k)) (fun k => wf (ix2 k 0)) (bf (ix1 0)) := by
  rw [kernel_term m d, e0, e2, e3, e4, e5, e6, e7]
  refine (tc2_total (edges m d) hE _ _ _ _ _ _).trans ?_
  have r1 : ∀ k : Fin 256, shapeCast S1x256 b1 shapeCasts_S256_S1x256 (ix2 0 k) = b1 (ix1 k) := fun k => by pointwise
  have r2 : ∀ k : Fin 256, shapeCast S1x256 b2 shapeCasts_S256_S1x256 (ix2 0 k) = b2 (ix1 k) := fun k => by pointwise
  have r3 : shapeCast S1x1 bf shapeCasts_S1_S1x1 (ix2 0 0) = bf (ix1 0) := by pointwise
  simp only [r1, r2, r3]
  refine total_congr (edges m d) hE _ _ (fun n hn c => ?_) _ _ _ _ _
  rw [feat, dif_pos (by omega), tc1_at X hX]
  exact congrFun (congrFun (emb1_congr X _ _ (fun t ht k => by rw [row_table m d V t ht, dif_pos ht]) _) n) c

end Kernel

/-- The reference ends with its arguments unchanged where the arguments are in range too. -/
theorem frame_ri_pre : Cert.quiescent_ReferenceIdeal_pre_in_range (hReferenceIdeal := Cert.ReferenceIdeal.Gen.facts)
    (hPre_in_range := Cert.Pre_in_range.Gen.facts) := fun m ρ _ => frame_ri m ρ trivial

/-- From arguments that agree and are in range, the kernel and the reference end with the same result at the ideal instance. -/
theorem algebraic : Cert.algebraic_KernelIdeal_ReferenceIdeal (hKernelIdeal := Cert.KernelIdeal.Gen.facts) (hReferenceIdeal := Cert.ReferenceIdeal.Gen.facts)
    (hPre_in_range := Cert.Pre_in_range.Gen.facts) := by
  intro m ρ m' ρ' hpre hagree
  have hr := fun d => range_of_pre _ _ _ _ _ _ _ _ (hpre d)
  refine ⟨fun c => A5 m c Cert.KernelIdeal.main_v27, ?_, ?_⟩
  · exact (θ_run Cert.KernelIdeal.defs _ _).mono
      (fun _ h c => ⟨h.1 c (Proc.devRef .tc Cert.KernelIdeal.main_v27) (by decide +kernel), args_kept (F := Ideal) m c (h.1 c)⟩)
      (run_main (F := Ideal) m ρ fun d => (hr d).2)
  · refine (θ_run Cert.ReferenceIdeal.defs _ _).mono (fun _ h c => ⟨(h c).1.trans ?_, (h c).2⟩) (Cert.ReferenceIdeal.Value.run (F := Ideal) m' ρ')
    obtain ⟨g0, g1, g2, g3, g4, g5, g6, g7⟩ := hagree c
    have hed : edgesV (StableHlo.launchContents m' c) = edges m c := g1
    funext j
    have hj := one_idx j
    subst hj
    refine (ref_total (StableHlo.launchContents m' c) (by rw [hed]; exact (hr c).2) _ (hr c).1 g0 _ g2 _ _ g3 g5 _ g4 _ g6 _ g7).trans ?_
    rw [hed]
    exact (kernel_total m c (StableHlo.launchContents m' c) (hr c).2 _ (hr c).1 rfl _ rfl _ _ rfl rfl _ rfl _ rfl _ rfl).symm

end Cert.Proof.V

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The frames of the kernel, of its idealized program and of the reference, the named constant's value, and the equality of the two
    results at the ideal instance. -/
theorem claim : Cert.Claim := ⟨Cert.Kernel.Gen.facts, Cert.KernelIdeal.Gen.facts, Cert.ReferenceIdeal.Gen.facts, Cert.Pre_in_range.Gen.facts,
  K.frame_p, K.frame_pi, K.frame_ri, V.frame_ri_pre, K.preserves, V.algebraic⟩

end Cert.Proof

end
